-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11)
      ∧ r.2.mem ((c.tc : Thread Cert.Kernel15.nD Cert.Kernel15.τ).loc Cert.Kernel15.main_arg12) = m ((c.tc : Thread Cert.Kernel15.nD Cert.Kernel15.τ).loc Cert.Kernel15.main_arg12)
      ∧ r.2.mem ((c.tc : Thread Cert.Kernel15.nD Cert.Kernel15.τ).loc Cert.Kernel15.main_arg13) = m ((c.tc : Thread Cert.Kernel15.nD Cert.Kernel15.τ).loc Cert.Kernel15.main_arg13)
      ∧ r.2.mem ((c.tc : Thread Cert.Kernel15.nD Cert.Kernel15.τ).loc Cert.Kernel15.main_arg14) = m ((c.tc : Thread Cert.Kernel15.nD Cert.Kernel15.τ).loc Cert.Kernel15.main_arg14)
      ∧ r.2.mem ((c.tc : Thread Cert.Kernel15.nD Cert.Kernel15.τ).loc Cert.Kernel15.main_arg15) = m ((c.tc : Thread Cert.Kernel15.nD Cert.Kernel15.τ).loc Cert.Kernel15.main_arg15))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
      ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
      ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
      ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
      ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11)
      ∧ r.2.mem ((c.tc : Thread Cert.Reference15Ideal.nD Cert.Reference15Ideal.τ).loc Cert.Reference15Ideal.main_arg12) = m ((c.tc : Thread Cert.Reference15Ideal.nD Cert.Reference15Ideal.τ).loc Cert.Reference15Ideal.main_arg12)
      ∧ r.2.mem ((c.tc : Thread Cert.Reference15Ideal.nD Cert.Reference15Ideal.τ).loc Cert.Reference15Ideal.main_arg13) = m ((c.tc : Thread Cert.Reference15Ideal.nD Cert.Reference15Ideal.τ).loc Cert.Reference15Ideal.main_arg13)
      ∧ r.2.mem ((c.tc : Thread Cert.Reference15Ideal.nD Cert.Reference15Ideal.τ).loc Cert.Reference15Ideal.main_arg14) = m ((c.tc : Thread Cert.Reference15Ideal.nD Cert.Reference15Ideal.τ).loc Cert.Reference15Ideal.main_arg14)
      ∧ r.2.mem ((c.tc : Thread Cert.Reference15Ideal.nD Cert.Reference15Ideal.τ).loc Cert.Reference15Ideal.main_arg15) = m ((c.tc : Thread Cert.Reference15Ideal.nD Cert.Reference15Ideal.τ).loc Cert.Reference15Ideal.main_arg15))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8)
      ∧ r.2.mem ((c.tc : Thread Cert.Kernel16.nD Cert.Kernel16.τ).loc Cert.Kernel16.main_arg9) = m ((c.tc : Thread Cert.Kernel16.nD Cert.Kernel16.τ).loc Cert.Kernel16.main_arg9)
      ∧ r.2.mem ((c.tc : Thread Cert.Kernel16.nD Cert.Kernel16.τ).loc Cert.Kernel16.main_arg10) = m ((c.tc : Thread Cert.Kernel16.nD Cert.Kernel16.τ).loc Cert.Kernel16.main_arg10)
      ∧ r.2.mem ((c.tc : Thread Cert.Kernel16.nD Cert.Kernel16.τ).loc Cert.Kernel16.main_arg11) = m ((c.tc : Thread Cert.Kernel16.nD Cert.Kernel16.τ).loc Cert.Kernel16.main_arg11))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
      ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
      ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
      ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8)
      ∧ r.2.mem ((c.tc : Thread Cert.Reference16Ideal.nD Cert.Reference16Ideal.τ).loc Cert.Reference16Ideal.main_arg9) = m ((c.tc : Thread Cert.Reference16Ideal.nD Cert.Reference16Ideal.τ).loc Cert.Reference16Ideal.main_arg9)
      ∧ r.2.mem ((c.tc : Thread Cert.Reference16Ideal.nD Cert.Reference16Ideal.τ).loc Cert.Reference16Ideal.main_arg10) = m ((c.tc : Thread Cert.Reference16Ideal.nD Cert.Reference16Ideal.τ).loc Cert.Reference16Ideal.main_arg10)
      ∧ r.2.mem ((c.tc : Thread Cert.Reference16Ideal.nD Cert.Reference16Ideal.τ).loc Cert.Reference16Ideal.main_arg11) = m ((c.tc : Thread Cert.Reference16Ideal.nD Cert.Reference16Ideal.τ).loc Cert.Reference16Ideal.main_arg11))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8)
      ∧ r.2.mem ((c.tc : Thread Cert.Kernel17.nD Cert.Kernel17.τ).loc Cert.Kernel17.main_arg9) = m ((c.tc : Thread Cert.Kernel17.nD Cert.Kernel17.τ).loc Cert.Kernel17.main_arg9)
      ∧ r.2.mem ((c.tc : Thread Cert.Kernel17.nD Cert.Kernel17.τ).loc Cert.Kernel17.main_arg10) = m ((c.tc : Thread Cert.Kernel17.nD Cert.Kernel17.τ).loc Cert.Kernel17.main_arg10)
      ∧ r.2.mem ((c.tc : Thread Cert.Kernel17.nD Cert.Kernel17.τ).loc Cert.Kernel17.main_arg11) = m ((c.tc : Thread Cert.Kernel17.nD Cert.Kernel17.τ).loc Cert.Kernel17.main_arg11))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
      ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
      ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10)
      ∧ r.2.mem ((c.tc : Thread Cert.Kernel17Ideal.nD Cert.Kernel17Ideal.τ).loc Cert.Kernel17Ideal.main_arg11) = m ((c.tc : Thread Cert.Kernel17Ideal.nD Cert.Kernel17Ideal.τ).loc Cert.Kernel17Ideal.main_arg11))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8)
      ∧ r.2.mem ((c.tc : Thread Cert.Reference17Ideal.nD Cert.Reference17Ideal.τ).loc Cert.Reference17Ideal.main_arg9) = m ((c.tc : Thread Cert.Reference17Ideal.nD Cert.Reference17Ideal.τ).loc Cert.Reference17Ideal.main_arg9)
      ∧ r.2.mem ((c.tc : Thread Cert.Reference17Ideal.nD Cert.Reference17Ideal.τ).loc Cert.Reference17Ideal.main_arg10) = m ((c.tc : Thread Cert.Reference17Ideal.nD Cert.Reference17Ideal.τ).loc Cert.Reference17Ideal.main_arg10)
      ∧ r.2.mem ((c.tc : Thread Cert.Reference17Ideal.nD Cert.Reference17Ideal.τ).loc Cert.Reference17Ideal.main_arg11) = m ((c.tc : Thread Cert.Reference17Ideal.nD Cert.Reference17Ideal.τ).loc Cert.Reference17Ideal.main_arg11))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7)
      ∧ r.2.mem ((c.tc : Thread Cert.Kernel18.nD Cert.Kernel18.τ).loc Cert.Kernel18.main_arg8) = m ((c.tc : Thread Cert.Kernel18.nD Cert.Kernel18.τ).loc Cert.Kernel18.main_arg8)
      ∧ r.2.mem ((c.tc : Thread Cert.Kernel18.nD Cert.Kernel18.τ).loc Cert.Kernel18.main_arg9) = m ((c.tc : Thread Cert.Kernel18.nD Cert.Kernel18.τ).loc Cert.Kernel18.main_arg9)
      ∧ r.2.mem ((c.tc : Thread Cert.Kernel18.nD Cert.Kernel18.τ).loc Cert.Kernel18.main_arg10) = m ((c.tc : Thread Cert.Kernel18.nD Cert.Kernel18.τ).loc Cert.Kernel18.main_arg10)
      ∧ r.2.mem ((c.tc : Thread Cert.Kernel18.nD Cert.Kernel18.τ).loc Cert.Kernel18.main_arg11) = m ((c.tc : Thread Cert.Kernel18.nD Cert.Kernel18.τ).loc Cert.Kernel18.main_arg11)
      ∧ r.2.mem ((c.tc : Thread Cert.Kernel18.nD Cert.Kernel18.τ).loc Cert.Kernel18.main_arg12) = m ((c.tc : Thread Cert.Kernel18.nD Cert.Kernel18.τ).loc Cert.Kernel18.main_arg12)
      ∧ r.2.mem ((c.tc : Thread Cert.Kernel18.nD Cert.Kernel18.τ).loc Cert.Kernel18.main_arg13) = m ((c.tc : Thread Cert.Kernel18.nD Cert.Kernel18.τ).loc Cert.Kernel18.main_arg13)
      ∧ r.2.mem ((c.tc : Thread Cert.Kernel18.nD Cert.Kernel18.τ).loc Cert.Kernel18.main_arg14) = m ((c.tc : Thread Cert.Kernel18.nD Cert.Kernel18.τ).loc Cert.Kernel18.main_arg14)
      ∧ r.2.mem ((c.tc : Thread Cert.Kernel18.nD Cert.Kernel18.τ).loc Cert.Kernel18.main_arg15) = m ((c.tc : Thread Cert.Kernel18.nD Cert.Kernel18.τ).loc Cert.Kernel18.main_arg15))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
      ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
      ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9)
      ∧ r.2.mem ((c.tc : Thread Cert.Kernel18Ideal.nD Cert.Kernel18Ideal.τ).loc Cert.Kernel18Ideal.main_arg10) = m ((c.tc : Thread Cert.Kernel18Ideal.nD Cert.Kernel18Ideal.τ).loc Cert.Kernel18Ideal.main_arg10)
      ∧ r.2.mem ((c.tc : Thread Cert.Kernel18Ideal.nD Cert.Kernel18Ideal.τ).loc Cert.Kernel18Ideal.main_arg11) = m ((c.tc : Thread Cert.Kernel18Ideal.nD Cert.Kernel18Ideal.τ).loc Cert.Kernel18Ideal.main_arg11)
      ∧ r.2.mem ((c.tc : Thread Cert.Kernel18Ideal.nD Cert.Kernel18Ideal.τ).loc Cert.Kernel18Ideal.main_arg12) = m ((c.tc : Thread Cert.Kernel18Ideal.nD Cert.Kernel18Ideal.τ).loc Cert.Kernel18Ideal.main_arg12)
      ∧ r.2.mem ((c.tc : Thread Cert.Kernel18Ideal.nD Cert.Kernel18Ideal.τ).loc Cert.Kernel18Ideal.main_arg13) = m ((c.tc : Thread Cert.Kernel18Ideal.nD Cert.Kernel18Ideal.τ).loc Cert.Kernel18Ideal.main_arg13)
      ∧ r.2.mem ((c.tc : Thread Cert.Kernel18Ideal.nD Cert.Kernel18Ideal.τ).loc Cert.Kernel18Ideal.main_arg14) = m ((c.tc : Thread Cert.Kernel18Ideal.nD Cert.Kernel18Ideal.τ).loc Cert.Kernel18Ideal.main_arg14)
      ∧ r.2.mem ((c.tc : Thread Cert.Kernel18Ideal.nD Cert.Kernel18Ideal.τ).loc Cert.Kernel18Ideal.main_arg15) = m ((c.tc : Thread Cert.Kernel18Ideal.nD Cert.Kernel18Ideal.τ).loc Cert.Kernel18Ideal.main_arg15))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7)
      ∧ r.2.mem ((c.tc : Thread Cert.Reference18Ideal.nD Cert.Reference18Ideal.τ).loc Cert.Reference18Ideal.main_arg8) = m ((c.tc : Thread Cert.Reference18Ideal.nD Cert.Reference18Ideal.τ).loc Cert.Reference18Ideal.main_arg8)
      ∧ r.2.mem ((c.tc : Thread Cert.Reference18Ideal.nD Cert.Reference18Ideal.τ).loc Cert.Reference18Ideal.main_arg9) = m ((c.tc : Thread Cert.Reference18Ideal.nD Cert.Reference18Ideal.τ).loc Cert.Reference18Ideal.main_arg9)
      ∧ r.2.mem ((c.tc : Thread Cert.Reference18Ideal.nD Cert.Reference18Ideal.τ).loc Cert.Reference18Ideal.main_arg10) = m ((c.tc : Thread Cert.Reference18Ideal.nD Cert.Reference18Ideal.τ).loc Cert.Reference18Ideal.main_arg10)
      ∧ r.2.mem ((c.tc : Thread Cert.Reference18Ideal.nD Cert.Reference18Ideal.τ).loc Cert.Reference18Ideal.main_arg11) = m ((c.tc : Thread Cert.Reference18Ideal.nD Cert.Reference18Ideal.τ).loc Cert.Reference18Ideal.main_arg11)
      ∧ r.2.mem ((c.tc : Thread Cert.Reference18Ideal.nD Cert.Reference18Ideal.τ).loc Cert.Reference18Ideal.main_arg12) = m ((c.tc : Thread Cert.Reference18Ideal.nD Cert.Reference18Ideal.τ).loc Cert.Reference18Ideal.main_arg12)
      ∧ r.2.mem ((c.tc : Thread Cert.Reference18Ideal.nD Cert.Reference18Ideal.τ).loc Cert.Reference18Ideal.main_arg13) = m ((c.tc : Thread Cert.Reference18Ideal.nD Cert.Reference18Ideal.τ).loc Cert.Reference18Ideal.main_arg13)
      ∧ r.2.mem ((c.tc : Thread Cert.Reference18Ideal.nD Cert.Reference18Ideal.τ).loc Cert.Reference18Ideal.main_arg14) = m ((c.tc : Thread Cert.Reference18Ideal.nD Cert.Reference18Ideal.τ).loc Cert.Reference18Ideal.main_arg14)
      ∧ r.2.mem ((c.tc : Thread Cert.Reference18Ideal.nD Cert.Reference18Ideal.τ).loc Cert.Reference18Ideal.main_arg15) = m ((c.tc : Thread Cert.Reference18Ideal.nD Cert.Reference18Ideal.τ).loc Cert.Reference18Ideal.main_arg15))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v36) = v0 c
          ∧ r.2.mem ((c.tc : Thread Cert.Reference14Ideal.nD Cert.Reference14Ideal.τ).loc Cert.Reference14Ideal.main_v37) = v1 c
          ∧ r.2.mem ((c.tc : Thread Cert.Reference14Ideal.nD Cert.Reference14Ideal.τ).loc Cert.Reference14Ideal.main_v38) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)
      ∧ m' ((c.tc : Thread Cert.Reference15Ideal.nD Cert.Reference15Ideal.τ).loc Cert.Reference15Ideal.main_arg12) = m ((c.tc : Thread Cert.Kernel15Ideal.nD Cert.Kernel15Ideal.τ).loc Cert.Kernel15Ideal.main_arg12)
      ∧ m' ((c.tc : Thread Cert.Reference15Ideal.nD Cert.Reference15Ideal.τ).loc Cert.Reference15Ideal.main_arg13) = m ((c.tc : Thread Cert.Kernel15Ideal.nD Cert.Kernel15Ideal.τ).loc Cert.Kernel15Ideal.main_arg13)
      ∧ m' ((c.tc : Thread Cert.Reference15Ideal.nD Cert.Reference15Ideal.τ).loc Cert.Reference15Ideal.main_arg14) = m ((c.tc : Thread Cert.Kernel15Ideal.nD Cert.Kernel15Ideal.τ).loc Cert.Kernel15Ideal.main_arg14)
      ∧ m' ((c.tc : Thread Cert.Reference15Ideal.nD Cert.Reference15Ideal.τ).loc Cert.Reference15Ideal.main_arg15) = m ((c.tc : Thread Cert.Kernel15Ideal.nD Cert.Kernel15Ideal.τ).loc Cert.Kernel15Ideal.main_arg15)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)) (v5 : (c : Dev Cert.Kernel15Ideal.nD) → Buf (Elt Ideal) ((c.tc : Thread Cert.Kernel15Ideal.nD Cert.Kernel15Ideal.τ).loc Cert.Kernel15Ideal.main_v0_5)) (v6 : (c : Dev Cert.Kernel15Ideal.nD) → Buf (Elt Ideal) ((c.tc : Thread Cert.Kernel15Ideal.nD Cert.Kernel15Ideal.τ).loc Cert.Kernel15Ideal.main_v0_6)) (v7 : (c : Dev Cert.Kernel15Ideal.nD) → Buf (Elt Ideal) ((c.tc : Thread Cert.Kernel15Ideal.nD Cert.Kernel15Ideal.τ).loc Cert.Kernel15Ideal.main_v0_7)) (v8 : (c : Dev Cert.Kernel15Ideal.nD) → Buf (Elt Ideal) ((c.tc : Thread Cert.Kernel15Ideal.nD Cert.Kernel15Ideal.τ).loc Cert.Kernel15Ideal.main_v0_8)) (v9 : (c : Dev Cert.Kernel15Ideal.nD) → Buf (Elt Ideal) ((c.tc : Thread Cert.Kernel15Ideal.nD Cert.Kernel15Ideal.τ).loc Cert.Kernel15Ideal.main_v0_9)) (v10 : (c : Dev Cert.Kernel15Ideal.nD) → Buf (Elt Ideal) ((c.tc : Thread Cert.Kernel15Ideal.nD Cert.Kernel15Ideal.τ).loc Cert.Kernel15Ideal.main_v0_10)) (v11 : (c : Dev Cert.Kernel15Ideal.nD) → Buf (Elt Ideal) ((c.tc : Thread Cert.Kernel15Ideal.nD Cert.Kernel15Ideal.τ).loc Cert.Kernel15Ideal.main_v0_11)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_v0_5) = v5 c
          ∧ r.2.mem ((c.tc : Thread Cert.Kernel15Ideal.nD Cert.Kernel15Ideal.τ).loc Cert.Kernel15Ideal.main_v0_6) = v6 c
          ∧ r.2.mem ((c.tc : Thread Cert.Kernel15Ideal.nD Cert.Kernel15Ideal.τ).loc Cert.Kernel15Ideal.main_v0_7) = v7 c
          ∧ r.2.mem ((c.tc : Thread Cert.Kernel15Ideal.nD Cert.Kernel15Ideal.τ).loc Cert.Kernel15Ideal.main_v0_8) = v8 c
          ∧ r.2.mem ((c.tc : Thread Cert.Kernel15Ideal.nD Cert.Kernel15Ideal.τ).loc Cert.Kernel15Ideal.main_v0_9) = v9 c
          ∧ r.2.mem ((c.tc : Thread Cert.Kernel15Ideal.nD Cert.Kernel15Ideal.τ).loc Cert.Kernel15Ideal.main_v0_10) = v10 c
          ∧ r.2.mem ((c.tc : Thread Cert.Kernel15Ideal.nD Cert.Kernel15Ideal.τ).loc Cert.Kernel15Ideal.main_v0_11) = v11 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
          ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
          ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
          ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
          ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v47) = v1 c
          ∧ r.2.mem ((c.tc : Thread Cert.Reference15Ideal.nD Cert.Reference15Ideal.τ).loc Cert.Reference15Ideal.main_v71) = v2 c
          ∧ r.2.mem ((c.tc : Thread Cert.Reference15Ideal.nD Cert.Reference15Ideal.τ).loc Cert.Reference15Ideal.main_v95) = v3 c
          ∧ r.2.mem ((c.tc : Thread Cert.Reference15Ideal.nD Cert.Reference15Ideal.τ).loc Cert.Reference15Ideal.main_v4) = v4 c
          ∧ r.2.mem ((c.tc : Thread Cert.Reference15Ideal.nD Cert.Reference15Ideal.τ).loc Cert.Reference15Ideal.main_v28) = v5 c
          ∧ r.2.mem ((c.tc : Thread Cert.Reference15Ideal.nD Cert.Reference15Ideal.τ).loc Cert.Reference15Ideal.main_v52) = v6 c
          ∧ r.2.mem ((c.tc : Thread Cert.Reference15Ideal.nD Cert.Reference15Ideal.τ).loc Cert.Reference15Ideal.main_v76) = v7 c
          ∧ r.2.mem ((c.tc : Thread Cert.Reference15Ideal.nD Cert.Reference15Ideal.τ).loc Cert.Reference15Ideal.main_v10) = v8 c
          ∧ r.2.mem ((c.tc : Thread Cert.Reference15Ideal.nD Cert.Reference15Ideal.τ).loc Cert.Reference15Ideal.main_v34) = v9 c
          ∧ r.2.mem ((c.tc : Thread Cert.Reference15Ideal.nD Cert.Reference15Ideal.τ).loc Cert.Reference15Ideal.main_v58) = v10 c
          ∧ r.2.mem ((c.tc : Thread Cert.Reference15Ideal.nD Cert.Reference15Ideal.τ).loc Cert.Reference15Ideal.main_v82) = v11 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11)
          ∧ r.2.mem ((c.tc : Thread Cert.Reference15Ideal.nD Cert.Reference15Ideal.τ).loc Cert.Reference15Ideal.main_arg12) = m' ((c.tc : Thread Cert.Reference15Ideal.nD Cert.Reference15Ideal.τ).loc Cert.Reference15Ideal.main_arg12)
          ∧ r.2.mem ((c.tc : Thread Cert.Reference15Ideal.nD Cert.Reference15Ideal.τ).loc Cert.Reference15Ideal.main_arg13) = m' ((c.tc : Thread Cert.Reference15Ideal.nD Cert.Reference15Ideal.τ).loc Cert.Reference15Ideal.main_arg13)
          ∧ r.2.mem ((c.tc : Thread Cert.Reference15Ideal.nD Cert.Reference15Ideal.τ).loc Cert.Reference15Ideal.main_arg14) = m' ((c.tc : Thread Cert.Reference15Ideal.nD Cert.Reference15Ideal.τ).loc Cert.Reference15Ideal.main_arg14)
          ∧ r.2.mem ((c.tc : Thread Cert.Reference15Ideal.nD Cert.Reference15Ideal.τ).loc Cert.Reference15Ideal.main_arg15) = m' ((c.tc : Thread Cert.Reference15Ideal.nD Cert.Reference15Ideal.τ).loc Cert.Reference15Ideal.main_arg15))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)
      ∧ m' ((c.tc : Thread Cert.Reference16Ideal.nD Cert.Reference16Ideal.τ).loc Cert.Reference16Ideal.main_arg9) = m ((c.tc : Thread Cert.Kernel16Ideal.nD Cert.Kernel16Ideal.τ).loc Cert.Kernel16Ideal.main_arg9)
      ∧ m' ((c.tc : Thread Cert.Reference16Ideal.nD Cert.Reference16Ideal.τ).loc Cert.Reference16Ideal.main_arg10) = m ((c.tc : Thread Cert.Kernel16Ideal.nD Cert.Kernel16Ideal.τ).loc Cert.Kernel16Ideal.main_arg10)
      ∧ m' ((c.tc : Thread Cert.Reference16Ideal.nD Cert.Reference16Ideal.τ).loc Cert.Reference16Ideal.main_arg11) = m ((c.tc : Thread Cert.Kernel16Ideal.nD Cert.Kernel16Ideal.τ).loc Cert.Kernel16Ideal.main_arg11)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)) (v4 : (c : Dev Cert.Kernel16Ideal.nD) → Buf (Elt Ideal) ((c.tc : Thread Cert.Kernel16Ideal.nD Cert.Kernel16Ideal.τ).loc Cert.Kernel16Ideal.main_v0_4)) (v5 : (c : Dev Cert.Kernel16Ideal.nD) → Buf (Elt Ideal) ((c.tc : Thread Cert.Kernel16Ideal.nD Cert.Kernel16Ideal.τ).loc Cert.Kernel16Ideal.main_v0_5)) (v6 : (c : Dev Cert.Kernel16Ideal.nD) → Buf (Elt Ideal) ((c.tc : Thread Cert.Kernel16Ideal.nD Cert.Kernel16Ideal.τ).loc Cert.Kernel16Ideal.main_v0_6)) (v7 : (c : Dev Cert.Kernel16Ideal.nD) → Buf (Elt Ideal) ((c.tc : Thread Cert.Kernel16Ideal.nD Cert.Kernel16Ideal.τ).loc Cert.Kernel16Ideal.main_v0_7)) (v8 : (c : Dev Cert.Kernel16Ideal.nD) → Buf (Elt Ideal) ((c.tc : Thread Cert.Kernel16Ideal.nD Cert.Kernel16Ideal.τ).loc Cert.Kernel16Ideal.main_v0_8)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_v0_4) = v4 c
          ∧ r.2.mem ((c.tc : Thread Cert.Kernel16Ideal.nD Cert.Kernel16Ideal.τ).loc Cert.Kernel16Ideal.main_v0_5) = v5 c
          ∧ r.2.mem ((c.tc : Thread Cert.Kernel16Ideal.nD Cert.Kernel16Ideal.τ).loc Cert.Kernel16Ideal.main_v0_6) = v6 c
          ∧ r.2.mem ((c.tc : Thread Cert.Kernel16Ideal.nD Cert.Kernel16Ideal.τ).loc Cert.Kernel16Ideal.main_v0_7) = v7 c
          ∧ r.2.mem ((c.tc : Thread Cert.Kernel16Ideal.nD Cert.Kernel16Ideal.τ).loc Cert.Kernel16Ideal.main_v0_8) = v8 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
          ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
          ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
          ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v47) = v1 c
          ∧ r.2.mem ((c.tc : Thread Cert.Reference16Ideal.nD Cert.Reference16Ideal.τ).loc Cert.Reference16Ideal.main_v71) = v2 c
          ∧ r.2.mem ((c.tc : Thread Cert.Reference16Ideal.nD Cert.Reference16Ideal.τ).loc Cert.Reference16Ideal.main_v4) = v3 c
          ∧ r.2.mem ((c.tc : Thread Cert.Reference16Ideal.nD Cert.Reference16Ideal.τ).loc Cert.Reference16Ideal.main_v28) = v4 c
          ∧ r.2.mem ((c.tc : Thread Cert.Reference16Ideal.nD Cert.Reference16Ideal.τ).loc Cert.Reference16Ideal.main_v52) = v5 c
          ∧ r.2.mem ((c.tc : Thread Cert.Reference16Ideal.nD Cert.Reference16Ideal.τ).loc Cert.Reference16Ideal.main_v10) = v6 c
          ∧ r.2.mem ((c.tc : Thread Cert.Reference16Ideal.nD Cert.Reference16Ideal.τ).loc Cert.Reference16Ideal.main_v34) = v7 c
          ∧ r.2.mem ((c.tc : Thread Cert.Reference16Ideal.nD Cert.Reference16Ideal.τ).loc Cert.Reference16Ideal.main_v58) = v8 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8)
          ∧ r.2.mem ((c.tc : Thread Cert.Reference16Ideal.nD Cert.Reference16Ideal.τ).loc Cert.Reference16Ideal.main_arg9) = m' ((c.tc : Thread Cert.Reference16Ideal.nD Cert.Reference16Ideal.τ).loc Cert.Reference16Ideal.main_arg9)
          ∧ r.2.mem ((c.tc : Thread Cert.Reference16Ideal.nD Cert.Reference16Ideal.τ).loc Cert.Reference16Ideal.main_arg10) = m' ((c.tc : Thread Cert.Reference16Ideal.nD Cert.Reference16Ideal.τ).loc Cert.Reference16Ideal.main_arg10)
          ∧ r.2.mem ((c.tc : Thread Cert.Reference16Ideal.nD Cert.Reference16Ideal.τ).loc Cert.Reference16Ideal.main_arg11) = m' ((c.tc : Thread Cert.Reference16Ideal.nD Cert.Reference16Ideal.τ).loc Cert.Reference16Ideal.main_arg11))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)
      ∧ m' ((c.tc : Thread Cert.Reference17Ideal.nD Cert.Reference17Ideal.τ).loc Cert.Reference17Ideal.main_arg9) = m ((c.tc : Thread Cert.Kernel17Ideal.nD Cert.Kernel17Ideal.τ).loc Cert.Kernel17Ideal.main_arg9)
      ∧ m' ((c.tc : Thread Cert.Reference17Ideal.nD Cert.Reference17Ideal.τ).loc Cert.Reference17Ideal.main_arg10) = m ((c.tc : Thread Cert.Kernel17Ideal.nD Cert.Kernel17Ideal.τ).loc Cert.Kernel17Ideal.main_arg10)
      ∧ m' ((c.tc : Thread Cert.Reference17Ideal.nD Cert.Reference17Ideal.τ).loc Cert.Reference17Ideal.main_arg11) = m ((c.tc : Thread Cert.Kernel17Ideal.nD Cert.Kernel17Ideal.τ).loc Cert.Kernel17Ideal.main_arg11)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)) (v4 : (c : Dev Cert.Kernel17Ideal.nD) → Buf (Elt Ideal) ((c.tc : Thread Cert.Kernel17Ideal.nD Cert.Kernel17Ideal.τ).loc Cert.Kernel17Ideal.main_v0_4)) (v5 : (c : Dev Cert.Kernel17Ideal.nD) → Buf (Elt Ideal) ((c.tc : Thread Cert.Kernel17Ideal.nD Cert.Kernel17Ideal.τ).loc Cert.Kernel17Ideal.main_v0_5)) (v6 : (c : Dev Cert.Kernel17Ideal.nD) → Buf (Elt Ideal) ((c.tc : Thread Cert.Kernel17Ideal.nD Cert.Kernel17Ideal.τ).loc Cert.Kernel17Ideal.main_v0_6)) (v7 : (c : Dev Cert.Kernel17Ideal.nD) → Buf (Elt Ideal) ((c.tc : Thread Cert.Kernel17Ideal.nD Cert.Kernel17Ideal.τ).loc Cert.Kernel17Ideal.main_v0_7)) (v8 : (c : Dev Cert.Kernel17Ideal.nD) → Buf (Elt Ideal) ((c.tc : Thread Cert.Kernel17Ideal.nD Cert.Kernel17Ideal.τ).loc Cert.Kernel17Ideal.main_v0_8)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_v0_4) = v4 c
          ∧ r.2.mem ((c.tc : Thread Cert.Kernel17Ideal.nD Cert.Kernel17Ideal.τ).loc Cert.Kernel17Ideal.main_v0_5) = v5 c
          ∧ r.2.mem ((c.tc : Thread Cert.Kernel17Ideal.nD Cert.Kernel17Ideal.τ).loc Cert.Kernel17Ideal.main_v0_6) = v6 c
          ∧ r.2.mem ((c.tc : Thread Cert.Kernel17Ideal.nD Cert.Kernel17Ideal.τ).loc Cert.Kernel17Ideal.main_v0_7) = v7 c
          ∧ r.2.mem ((c.tc : Thread Cert.Kernel17Ideal.nD Cert.Kernel17Ideal.τ).loc Cert.Kernel17Ideal.main_v0_8) = v8 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
          ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
          ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10)
          ∧ r.2.mem ((c.tc : Thread Cert.Kernel17Ideal.nD Cert.Kernel17Ideal.τ).loc Cert.Kernel17Ideal.main_arg11) = m ((c.tc : Thread Cert.Kernel17Ideal.nD Cert.Kernel17Ideal.τ).loc Cert.Kernel17Ideal.main_arg11))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v47) = v1 c
          ∧ r.2.mem ((c.tc : Thread Cert.Reference17Ideal.nD Cert.Reference17Ideal.τ).loc Cert.Reference17Ideal.main_v71) = v2 c
          ∧ r.2.mem ((c.tc : Thread Cert.Reference17Ideal.nD Cert.Reference17Ideal.τ).loc Cert.Reference17Ideal.main_v4) = v3 c
          ∧ r.2.mem ((c.tc : Thread Cert.Reference17Ideal.nD Cert.Reference17Ideal.τ).loc Cert.Reference17Ideal.main_v28) = v4 c
          ∧ r.2.mem ((c.tc : Thread Cert.Reference17Ideal.nD Cert.Reference17Ideal.τ).loc Cert.Reference17Ideal.main_v52) = v5 c
          ∧ r.2.mem ((c.tc : Thread Cert.Reference17Ideal.nD Cert.Reference17Ideal.τ).loc Cert.Reference17Ideal.main_v10) = v6 c
          ∧ r.2.mem ((c.tc : Thread Cert.Reference17Ideal.nD Cert.Reference17Ideal.τ).loc Cert.Reference17Ideal.main_v34) = v7 c
          ∧ r.2.mem ((c.tc : Thread Cert.Reference17Ideal.nD Cert.Reference17Ideal.τ).loc Cert.Reference17Ideal.main_v58) = v8 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8)
          ∧ r.2.mem ((c.tc : Thread Cert.Reference17Ideal.nD Cert.Reference17Ideal.τ).loc Cert.Reference17Ideal.main_arg9) = m' ((c.tc : Thread Cert.Reference17Ideal.nD Cert.Reference17Ideal.τ).loc Cert.Reference17Ideal.main_arg9)
          ∧ r.2.mem ((c.tc : Thread Cert.Reference17Ideal.nD Cert.Reference17Ideal.τ).loc Cert.Reference17Ideal.main_arg10) = m' ((c.tc : Thread Cert.Reference17Ideal.nD Cert.Reference17Ideal.τ).loc Cert.Reference17Ideal.main_arg10)
          ∧ r.2.mem ((c.tc : Thread Cert.Reference17Ideal.nD Cert.Reference17Ideal.τ).loc Cert.Reference17Ideal.main_arg11) = m' ((c.tc : Thread Cert.Reference17Ideal.nD Cert.Reference17Ideal.τ).loc Cert.Reference17Ideal.main_arg11))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)
      ∧ m' ((c.tc : Thread Cert.Reference18Ideal.nD Cert.Reference18Ideal.τ).loc Cert.Reference18Ideal.main_arg8) = m ((c.tc : Thread Cert.Kernel18Ideal.nD Cert.Kernel18Ideal.τ).loc Cert.Kernel18Ideal.main_arg8)
      ∧ m' ((c.tc : Thread Cert.Reference18Ideal.nD Cert.Reference18Ideal.τ).loc Cert.Reference18Ideal.main_arg9) = m ((c.tc : Thread Cert.Kernel18Ideal.nD Cert.Kernel18Ideal.τ).loc Cert.Kernel18Ideal.main_arg9)
      ∧ m' ((c.tc : Thread Cert.Reference18Ideal.nD Cert.Reference18Ideal.τ).loc Cert.Reference18Ideal.main_arg10) = m ((c.tc : Thread Cert.Kernel18Ideal.nD Cert.Kernel18Ideal.τ).loc Cert.Kernel18Ideal.main_arg10)
      ∧ m' ((c.tc : Thread Cert.Reference18Ideal.nD Cert.Reference18Ideal.τ).loc Cert.Reference18Ideal.main_arg11) = m ((c.tc : Thread Cert.Kernel18Ideal.nD Cert.Kernel18Ideal.τ).loc Cert.Kernel18Ideal.main_arg11)
      ∧ m' ((c.tc : Thread Cert.Reference18Ideal.nD Cert.Reference18Ideal.τ).loc Cert.Reference18Ideal.main_arg12) = m ((c.tc : Thread Cert.Kernel18Ideal.nD Cert.Kernel18Ideal.τ).loc Cert.Kernel18Ideal.main_arg12)
      ∧ m' ((c.tc : Thread Cert.Reference18Ideal.nD Cert.Reference18Ideal.τ).loc Cert.Reference18Ideal.main_arg13) = m ((c.tc : Thread Cert.Kernel18Ideal.nD Cert.Kernel18Ideal.τ).loc Cert.Kernel18Ideal.main_arg13)
      ∧ m' ((c.tc : Thread Cert.Reference18Ideal.nD Cert.Reference18Ideal.τ).loc Cert.Reference18Ideal.main_arg14) = m ((c.tc : Thread Cert.Kernel18Ideal.nD Cert.Kernel18Ideal.τ).loc Cert.Kernel18Ideal.main_arg14)
      ∧ m' ((c.tc : Thread Cert.Reference18Ideal.nD Cert.Reference18Ideal.τ).loc Cert.Reference18Ideal.main_arg15) = m ((c.tc : Thread Cert.Kernel18Ideal.nD Cert.Kernel18Ideal.τ).loc Cert.Kernel18Ideal.main_arg15)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)) (v4 : (c : Dev Cert.Kernel18Ideal.nD) → Buf (Elt Ideal) ((c.tc : Thread Cert.Kernel18Ideal.nD Cert.Kernel18Ideal.τ).loc Cert.Kernel18Ideal.main_v0_4)) (v5 : (c : Dev Cert.Kernel18Ideal.nD) → Buf (Elt Ideal) ((c.tc : Thread Cert.Kernel18Ideal.nD Cert.Kernel18Ideal.τ).loc Cert.Kernel18Ideal.main_v0_5)) (v6 : (c : Dev Cert.Kernel18Ideal.nD) → Buf (Elt Ideal) ((c.tc : Thread Cert.Kernel18Ideal.nD Cert.Kernel18Ideal.τ).loc Cert.Kernel18Ideal.main_v0_6)) (v7 : (c : Dev Cert.Kernel18Ideal.nD) → Buf (Elt Ideal) ((c.tc : Thread Cert.Kernel18Ideal.nD Cert.Kernel18Ideal.τ).loc Cert.Kernel18Ideal.main_v0_7)) (v8 : (c : Dev Cert.Kernel18Ideal.nD) → Buf (Elt Ideal) ((c.tc : Thread Cert.Kernel18Ideal.nD Cert.Kernel18Ideal.τ).loc Cert.Kernel18Ideal.main_v0_8)) (v9 : (c : Dev Cert.Kernel18Ideal.nD) → Buf (Elt Ideal) ((c.tc : Thread Cert.Kernel18Ideal.nD Cert.Kernel18Ideal.τ).loc Cert.Kernel18Ideal.main_v0_9)) (v10 : (c : Dev Cert.Kernel18Ideal.nD) → Buf (Elt Ideal) ((c.tc : Thread Cert.Kernel18Ideal.nD Cert.Kernel18Ideal.τ).loc Cert.Kernel18Ideal.main_v0_10)) (v11 : (c : Dev Cert.Kernel18Ideal.nD) → Buf (Elt Ideal) ((c.tc : Thread Cert.Kernel18Ideal.nD Cert.Kernel18Ideal.τ).loc Cert.Kernel18Ideal.main_v0_11)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_v0_4) = v4 c
          ∧ r.2.mem ((c.tc : Thread Cert.Kernel18Ideal.nD Cert.Kernel18Ideal.τ).loc Cert.Kernel18Ideal.main_v0_5) = v5 c
          ∧ r.2.mem ((c.tc : Thread Cert.Kernel18Ideal.nD Cert.Kernel18Ideal.τ).loc Cert.Kernel18Ideal.main_v0_6) = v6 c
          ∧ r.2.mem ((c.tc : Thread Cert.Kernel18Ideal.nD Cert.Kernel18Ideal.τ).loc Cert.Kernel18Ideal.main_v0_7) = v7 c
          ∧ r.2.mem ((c.tc : Thread Cert.Kernel18Ideal.nD Cert.Kernel18Ideal.τ).loc Cert.Kernel18Ideal.main_v0_8) = v8 c
          ∧ r.2.mem ((c.tc : Thread Cert.Kernel18Ideal.nD Cert.Kernel18Ideal.τ).loc Cert.Kernel18Ideal.main_v0_9) = v9 c
          ∧ r.2.mem ((c.tc : Thread Cert.Kernel18Ideal.nD Cert.Kernel18Ideal.τ).loc Cert.Kernel18Ideal.main_v0_10) = v10 c
          ∧ r.2.mem ((c.tc : Thread Cert.Kernel18Ideal.nD Cert.Kernel18Ideal.τ).loc Cert.Kernel18Ideal.main_v0_11) = v11 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
          ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
          ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9)
          ∧ r.2.mem ((c.tc : Thread Cert.Kernel18Ideal.nD Cert.Kernel18Ideal.τ).loc Cert.Kernel18Ideal.main_arg10) = m ((c.tc : Thread Cert.Kernel18Ideal.nD Cert.Kernel18Ideal.τ).loc Cert.Kernel18Ideal.main_arg10)
          ∧ r.2.mem ((c.tc : Thread Cert.Kernel18Ideal.nD Cert.Kernel18Ideal.τ).loc Cert.Kernel18Ideal.main_arg11) = m ((c.tc : Thread Cert.Kernel18Ideal.nD Cert.Kernel18Ideal.τ).loc Cert.Kernel18Ideal.main_arg11)
          ∧ r.2.mem ((c.tc : Thread Cert.Kernel18Ideal.nD Cert.Kernel18Ideal.τ).loc Cert.Kernel18Ideal.main_arg12) = m ((c.tc : Thread Cert.Kernel18Ideal.nD Cert.Kernel18Ideal.τ).loc Cert.Kernel18Ideal.main_arg12)
          ∧ r.2.mem ((c.tc : Thread Cert.Kernel18Ideal.nD Cert.Kernel18Ideal.τ).loc Cert.Kernel18Ideal.main_arg13) = m ((c.tc : Thread Cert.Kernel18Ideal.nD Cert.Kernel18Ideal.τ).loc Cert.Kernel18Ideal.main_arg13)
          ∧ r.2.mem ((c.tc : Thread Cert.Kernel18Ideal.nD Cert.Kernel18Ideal.τ).loc Cert.Kernel18Ideal.main_arg14) = m ((c.tc : Thread Cert.Kernel18Ideal.nD Cert.Kernel18Ideal.τ).loc Cert.Kernel18Ideal.main_arg14)
          ∧ r.2.mem ((c.tc : Thread Cert.Kernel18Ideal.nD Cert.Kernel18Ideal.τ).loc Cert.Kernel18Ideal.main_arg15) = m ((c.tc : Thread Cert.Kernel18Ideal.nD Cert.Kernel18Ideal.τ).loc Cert.Kernel18Ideal.main_arg15))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v47) = v1 c
          ∧ r.2.mem ((c.tc : Thread Cert.Reference18Ideal.nD Cert.Reference18Ideal.τ).loc Cert.Reference18Ideal.main_v71) = v2 c
          ∧ r.2.mem ((c.tc : Thread Cert.Reference18Ideal.nD Cert.Reference18Ideal.τ).loc Cert.Reference18Ideal.main_v95) = v3 c
          ∧ r.2.mem ((c.tc : Thread Cert.Reference18Ideal.nD Cert.Reference18Ideal.τ).loc Cert.Reference18Ideal.main_v4) = v4 c
          ∧ r.2.mem ((c.tc : Thread Cert.Reference18Ideal.nD Cert.Reference18Ideal.τ).loc Cert.Reference18Ideal.main_v28) = v5 c
          ∧ r.2.mem ((c.tc : Thread Cert.Reference18Ideal.nD Cert.Reference18Ideal.τ).loc Cert.Reference18Ideal.main_v52) = v6 c
          ∧ r.2.mem ((c.tc : Thread Cert.Reference18Ideal.nD Cert.Reference18Ideal.τ).loc Cert.Reference18Ideal.main_v76) = v7 c
          ∧ r.2.mem ((c.tc : Thread Cert.Reference18Ideal.nD Cert.Reference18Ideal.τ).loc Cert.Reference18Ideal.main_v10) = v8 c
          ∧ r.2.mem ((c.tc : Thread Cert.Reference18Ideal.nD Cert.Reference18Ideal.τ).loc Cert.Reference18Ideal.main_v34) = v9 c
          ∧ r.2.mem ((c.tc : Thread Cert.Reference18Ideal.nD Cert.Reference18Ideal.τ).loc Cert.Reference18Ideal.main_v58) = v10 c
          ∧ r.2.mem ((c.tc : Thread Cert.Reference18Ideal.nD Cert.Reference18Ideal.τ).loc Cert.Reference18Ideal.main_v82) = v11 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7)
          ∧ r.2.mem ((c.tc : Thread Cert.Reference18Ideal.nD Cert.Reference18Ideal.τ).loc Cert.Reference18Ideal.main_arg8) = m' ((c.tc : Thread Cert.Reference18Ideal.nD Cert.Reference18Ideal.τ).loc Cert.Reference18Ideal.main_arg8)
          ∧ r.2.mem ((c.tc : Thread Cert.Reference18Ideal.nD Cert.Reference18Ideal.τ).loc Cert.Reference18Ideal.main_arg9) = m' ((c.tc : Thread Cert.Reference18Ideal.nD Cert.Reference18Ideal.τ).loc Cert.Reference18Ideal.main_arg9)
          ∧ r.2.mem ((c.tc : Thread Cert.Reference18Ideal.nD Cert.Reference18Ideal.τ).loc Cert.Reference18Ideal.main_arg10) = m' ((c.tc : Thread Cert.Reference18Ideal.nD Cert.Reference18Ideal.τ).loc Cert.Reference18Ideal.main_arg10)
          ∧ r.2.mem ((c.tc : Thread Cert.Reference18Ideal.nD Cert.Reference18Ideal.τ).loc Cert.Reference18Ideal.main_arg11) = m' ((c.tc : Thread Cert.Reference18Ideal.nD Cert.Reference18Ideal.τ).loc Cert.Reference18Ideal.main_arg11)
          ∧ r.2.mem ((c.tc : Thread Cert.Reference18Ideal.nD Cert.Reference18Ideal.τ).loc Cert.Reference18Ideal.main_arg12) = m' ((c.tc : Thread Cert.Reference18Ideal.nD Cert.Reference18Ideal.τ).loc Cert.Reference18Ideal.main_arg12)
          ∧ r.2.mem ((c.tc : Thread Cert.Reference18Ideal.nD Cert.Reference18Ideal.τ).loc Cert.Reference18Ideal.main_arg13) = m' ((c.tc : Thread Cert.Reference18Ideal.nD Cert.Reference18Ideal.τ).loc Cert.Reference18Ideal.main_arg13)
          ∧ r.2.mem ((c.tc : Thread Cert.Reference18Ideal.nD Cert.Reference18Ideal.τ).loc Cert.Reference18Ideal.main_arg14) = m' ((c.tc : Thread Cert.Reference18Ideal.nD Cert.Reference18Ideal.τ).loc Cert.Reference18Ideal.main_arg14)
          ∧ r.2.mem ((c.tc : Thread Cert.Reference18Ideal.nD Cert.Reference18Ideal.τ).loc Cert.Reference18Ideal.main_arg15) = m' ((c.tc : Thread Cert.Reference18Ideal.nD Cert.Reference18Ideal.τ).loc Cert.Reference18Ideal.main_arg15))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)) (v3 : (c : Dev Cert.Kernel19Ideal.nD) → Buf (Elt Ideal) ((c.tc : Thread Cert.Kernel19Ideal.nD Cert.Kernel19Ideal.τ).loc Cert.Kernel19Ideal.main_v1_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_v1_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_v30) = v1 c
          ∧ r.2.mem ((c.tc : Thread Cert.Reference19Ideal.nD Cert.Reference19Ideal.τ).loc Cert.Reference19Ideal.main_v11) = v2 c
          ∧ r.2.mem ((c.tc : Thread Cert.Reference19Ideal.nD Cert.Reference19Ideal.τ).loc Cert.Reference19Ideal.main_v17) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Kernel.lean ====
abbrev S4096x5632 : Shape := ⟨2, ![4096, 5632]⟩
abbrev S5632x2048 : Shape := ⟨2, ![5632, 2048]⟩
abbrev S4096x2048 : Shape := ⟨2, ![4096, 2048]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .bf16⟩
  | .hbm, ⟨3, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceIdeal.lean ====
abbrev S4096x5632 : Shape := ⟨2, ![4096, 5632]⟩
abbrev S5632x2048 : Shape := ⟨2, ![5632, 2048]⟩
abbrev S4096x2048 : Shape := ⟨2, ![4096, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .bf16⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S4096x5632, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel2.lean ====
abbrev S4096x5632 : Shape := ⟨2, ![4096, 5632]⟩
abbrev S5632x2048 : Shape := ⟨2, ![5632, 2048]⟩
abbrev S4096x2048 : Shape := ⟨2, ![4096, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .bf16⟩
  | .hbm, ⟨3, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x5632 : Shape := ⟨2, ![4096, 5632]⟩
abbrev S5632x2048 : Shape := ⟨2, ![5632, 2048]⟩
abbrev S4096x2048 : Shape := ⟨2, ![4096, 2048]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .bf16⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S4096x5632, .f32⟩
  | .hbm, ⟨10, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4096x2048 : Shape := ⟨2, ![4096, 2048]⟩
abbrev S8x2048x1408 : Shape := ⟨3, ![8, 2048, 1408]⟩
abbrev S2x4096x5632 : Shape := ⟨3, ![2, 4096, 5632]⟩
abbrev S1x1024x1408 : Shape := ⟨3, ![1, 1024, 1408]⟩
abbrev S1x2048x1408 : Shape := ⟨3, ![1, 2048, 1408]⟩
abbrev S1024x2048 : Shape := ⟨2, ![1024, 2048]⟩
abbrev S1024x1408 : Shape := ⟨2, ![1024, 1408]⟩
abbrev S2048x1408 : Shape := ⟨2, ![2048, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S2x4096x5632, .bf16⟩
  | .hbm, ⟨3, _⟩ => ⟨S4096x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32_8 : BitVec 32 := 7#32
  let v13 : BitVec 1 := Scalar.cmpi .eq arg2 c7_i32_8
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S8x2048x1408 : Shape := ⟨3, ![8, 2048, 1408]⟩
abbrev S2x4096x5632 : Shape := ⟨3, ![2, 4096, 5632]⟩
abbrev S2048x8x1408 : Shape := ⟨3, ![2048, 8, 1408]⟩
abbrev S2048x11264 : Shape := ⟨2, ![2048, 11264]⟩
abbrev S1x4096x5632 : Shape := ⟨3, ![1, 4096, 5632]⟩
abbrev S4096x5632 : Shape := ⟨2, ![4096, 5632]⟩
abbrev S4096x11264 : Shape := ⟨2, ![4096, 11264]⟩
abbrev S11264x2048 : Shape := ⟨2, ![11264, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S2x4096x5632, .bf16⟩
  | .hbm, ⟨3, _⟩ => ⟨S2048x8x1408, .bf16⟩
  | .hbm, ⟨4, _⟩ => ⟨S2048x11264, .bf16⟩
  | .hbm, ⟨5, _⟩ => ⟨S1x4096x5632, .bf16⟩
  | .hbm, ⟨6, _⟩ => ⟨S4096x5632, .bf16⟩
  | .hbm, ⟨7, _⟩ => ⟨S1x4096x5632, .bf16⟩
  | .hbm, ⟨8, _⟩ => ⟨S4096x5632, .bf16⟩
  | .hbm, ⟨9, _⟩ => ⟨S4096x11264, .bf16⟩
  | .hbm, ⟨10, _⟩ => ⟨S4096x2048, .f32⟩
  | .hbm, ⟨11, _⟩ => ⟨S2048x11264, .f32⟩
  | .hbm, ⟨12, _⟩ => ⟨S4096x11264, .f32⟩
  | .hbm, ⟨13, _⟩ => ⟨S4096x11264, .f32⟩
  | .hbm, ⟨14, _⟩ => ⟨S11264x2048, .f32⟩
  | .hbm, ⟨15, _⟩ => ⟨S2048x11264, .f32⟩
  | .hbm, ⟨16, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel4.lean ====
abbrev S4096x2048 : Shape := ⟨2, ![4096, 2048]⟩
abbrev S8x2048x1408 : Shape := ⟨3, ![8, 2048, 1408]⟩
abbrev S2x4096x5632 : Shape := ⟨3, ![2, 4096, 5632]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S2x4096x5632, .bf16⟩
  | .hbm, ⟨3, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S8x2048x1408 : Shape := ⟨3, ![8, 2048, 1408]⟩
abbrev S2x4096x5632 : Shape := ⟨3, ![2, 4096, 5632]⟩
abbrev S2048x8x1408 : Shape := ⟨3, ![2048, 8, 1408]⟩
abbrev S2048x11264 : Shape := ⟨2, ![2048, 11264]⟩
abbrev S1x4096x5632 : Shape := ⟨3, ![1, 4096, 5632]⟩
abbrev S4096x5632 : Shape := ⟨2, ![4096, 5632]⟩
abbrev S4096x11264 : Shape := ⟨2, ![4096, 11264]⟩
abbrev S11264x2048 : Shape := ⟨2, ![11264, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S2x4096x5632, .bf16⟩
  | .hbm, ⟨3, _⟩ => ⟨S2048x8x1408, .bf16⟩
  | .hbm, ⟨4, _⟩ => ⟨S2048x11264, .bf16⟩
  | .hbm, ⟨5, _⟩ => ⟨S1x4096x5632, .bf16⟩
  | .hbm, ⟨6, _⟩ => ⟨S4096x5632, .bf16⟩
  | .hbm, ⟨7, _⟩ => ⟨S1x4096x5632, .bf16⟩
  | .hbm, ⟨8, _⟩ => ⟨S4096x5632, .bf16⟩
  | .hbm, ⟨9, _⟩ => ⟨S4096x11264, .bf16⟩
  | .hbm, ⟨10, _⟩ => ⟨S4096x2048, .f32⟩
  | .hbm, ⟨11, _⟩ => ⟨S2048x11264, .f32⟩
  | .hbm, ⟨12, _⟩ => ⟨S4096x11264, .f32⟩
  | .hbm, ⟨13, _⟩ => ⟨S4096x11264, .f32⟩
  | .hbm, ⟨14, _⟩ => ⟨S11264x2048, .f32⟩
  | .hbm, ⟨15, _⟩ => ⟨S2048x11264, .f32⟩
  | .hbm, ⟨16, _⟩ => ⟨S4096x2048, .f32⟩
  | .hbm, ⟨17, _⟩ => ⟨S2048x8x1408, .f32⟩
  | .hbm, ⟨18, _⟩ => ⟨S8x2048x1408, .f32⟩
  | .hbm, ⟨19, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Kernel5.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | .hbm, ⟨10, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S4096x2048 : Shape := ⟨2, ![4096, 2048]⟩
abbrev S5136x2048 : Shape := ⟨2, ![5136, 2048]⟩
abbrev S4096x5120 : Shape := ⟨2, ![4096, 5120]⟩
abbrev S1024x2560 : Shape := ⟨2, ![1024, 2560]⟩
abbrev S2560x1024 : Shape := ⟨2, ![2560, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S5136x2048, .bf16⟩
  | .hbm, ⟨2, _⟩ => ⟨S4096x5120, .bf16⟩
  | .hbm, ⟨3, _⟩ => ⟨S4096x2048, .f32⟩
  | .hbm, ⟨4, _⟩ => ⟨S4096x2048, .f32⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x2048 : Shape := ⟨2, ![4096, 2048]⟩
abbrev S5136x2048 : Shape := ⟨2, ![5136, 2048]⟩
abbrev S4096x5120 : Shape := ⟨2, ![4096, 5120]⟩
abbrev S5120x2048 : Shape := ⟨2, ![5120, 2048]⟩
abbrev S2048x5120 : Shape := ⟨2, ![2048, 5120]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5136x2048, .bf16⟩
  | .hbm, ⟨2, _⟩ => ⟨S4096x5120, .bf16⟩
  | .hbm, ⟨3, _⟩ => ⟨S4096x2048, .f32⟩
  | .hbm, ⟨4, _⟩ => ⟨S5120x2048, .bf16⟩
  | .hbm, ⟨5, _⟩ => ⟨S2048x5120, .bf16⟩
  | .hbm, ⟨6, _⟩ => ⟨S4096x2048, .f32⟩
  | .hbm, ⟨7, _⟩ => ⟨S2048x5120, .f32⟩
  | .hbm, ⟨8, _⟩ => ⟨S4096x5120, .f32⟩
  | .hbm, ⟨9, _⟩ => ⟨S4096x5120, .f32⟩
  | .hbm, ⟨10, _⟩ => ⟨S5120x2048, .f32⟩
  | .hbm, ⟨11, _⟩ => ⟨S2048x5120, .f32⟩
  | .hbm, ⟨12, _⟩ => ⟨S4096x2048, .f32⟩
  | .hbm, ⟨13, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel8.lean ====
abbrev S4096x2048 : Shape := ⟨2, ![4096, 2048]⟩
abbrev S5136x2048 : Shape := ⟨2, ![5136, 2048]⟩
abbrev S4096x5120 : Shape := ⟨2, ![4096, 5120]⟩
abbrev S5120x2048 : Shape := ⟨2, ![5120, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S5136x2048, .bf16⟩
  | .hbm, ⟨2, _⟩ => ⟨S4096x5120, .bf16⟩
  | .hbm, ⟨3, _⟩ => ⟨S4096x2048, .f32⟩
  | .hbm, ⟨4, _⟩ => ⟨S5120x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S5136x2048 : Shape := ⟨2, ![5136, 2048]⟩
abbrev S4096x5120 : Shape := ⟨2, ![4096, 5120]⟩
abbrev S5120x2048 : Shape := ⟨2, ![5120, 2048]⟩
abbrev S2048x5120 : Shape := ⟨2, ![2048, 5120]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5136x2048, .bf16⟩
  | .hbm, ⟨2, _⟩ => ⟨S4096x5120, .bf16⟩
  | .hbm, ⟨3, _⟩ => ⟨S4096x2048, .f32⟩
  | .hbm, ⟨4, _⟩ => ⟨S5120x2048, .bf16⟩
  | .hbm, ⟨5, _⟩ => ⟨S2048x5120, .bf16⟩
  | .hbm, ⟨6, _⟩ => ⟨S4096x2048, .f32⟩
  | .hbm, ⟨7, _⟩ => ⟨S2048x5120, .f32⟩
  | .hbm, ⟨8, _⟩ => ⟨S4096x5120, .f32⟩
  | .hbm, ⟨9, _⟩ => ⟨S4096x5120, .f32⟩
  | .hbm, ⟨10, _⟩ => ⟨S5120x2048, .f32⟩
  | .hbm, ⟨11, _⟩ => ⟨S2048x5120, .f32⟩
  | .hbm, ⟨12, _⟩ => ⟨S4096x2048, .f32⟩
  | .hbm, ⟨13, _⟩ => ⟨S5120x2048, .f32⟩
  | .hbm, ⟨14, _⟩ => ⟨S5120x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | .hbm, ⟨10, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S4096x2048 : Shape := ⟨2, ![4096, 2048]⟩
abbrev S8x2048x1408 : Shape := ⟨3, ![8, 2048, 1408]⟩
abbrev S2x4096x5632 : Shape := ⟨3, ![2, 4096, 5632]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S2x4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S4096x2048, .f32⟩
  | .hbm, ⟨3, _⟩ => ⟨S2048x8x1408, .bf16⟩
  | .hbm, ⟨4, _⟩ => ⟨S2048x11264, .bf16⟩
  | .hbm, ⟨5, _⟩ => ⟨S2048x11264, .f32⟩
  | .hbm, ⟨6, _⟩ => ⟨S4096x11264, .f32⟩
  | .hbm, ⟨7, _⟩ => ⟨S4096x5632, .f32⟩
  | .hbm, ⟨8, _⟩ => ⟨S4096x5632, .f32⟩
  | .hbm, ⟨9, _⟩ => ⟨S1x4096x5632, .f32⟩
  | .hbm, ⟨10, _⟩ => ⟨S1x4096x5632, .f32⟩
  | .hbm, ⟨11, _⟩ => ⟨S2x4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel12.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x2048 : Shape := ⟨2, ![4096, 2048]⟩
abbrev S5136x2048 : Shape := ⟨2, ![5136, 2048]⟩
abbrev S4096x5120 : Shape := ⟨2, ![4096, 5120]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5136x2048, .bf16⟩
  | .hbm, ⟨2, _⟩ => ⟨S4096x5120, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S5136x2048 : Shape := ⟨2, ![5136, 2048]⟩
abbrev S5120x2048 : Shape := ⟨2, ![5120, 2048]⟩
abbrev S2048x5120 : Shape := ⟨2, ![2048, 5120]⟩
abbrev S4096x5120 : Shape := ⟨2, ![4096, 5120]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5136x2048, .bf16⟩
  | .hbm, ⟨2, _⟩ => ⟨S4096x2048, .f32⟩
  | .hbm, ⟨3, _⟩ => ⟨S5120x2048, .bf16⟩
  | .hbm, ⟨4, _⟩ => ⟨S2048x5120, .bf16⟩
  | .hbm, ⟨5, _⟩ => ⟨S2048x5120, .f32⟩
  | .hbm, ⟨6, _⟩ => ⟨S4096x5120, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel14.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_16 : BitVec 32 := 0#32
  let v40 : BitVec 1 := Scalar.cmpi .ne v39 c0_i32_16
  v40

def k0_cond2 (i : grid0.Coords) : BitVec 1 :=
  let arg0 : BitVec 32 := BitVec.ofNat 32 (i 0).val
  let c0_i32 : BitVec 32 := 0#32
  let v38 : BitVec 1 := Scalar.cmpi .eq arg0 c0_i32
  let v_true : BitVec 1 := 1#1
  let v41 : BitVec 1 := Scalar.xori v38 v_true
  let v42 : BitVec 32 := Scalar.extui v41
  let c0_i32_17 : BitVec 32 := 0#32
  let v43 : BitVec 1 := Scalar.cmpi .ne v42 c0_i32_17
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference14Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel15.lean ====
abbrev S2x2048 : Shape := ⟨2, ![2, 2048]⟩
abbrev S62x128 : Shape := ⟨2, ![62, 128]⟩
abbrev S2x1024 : Shape := ⟨2, ![2, 1024]⟩

abbrev nBuf : Space → Nat
  | .hbm => 28
  | .vmem => 28
  | .smem => 0
  | _ => 0

abbrev bufTy : (tb : Table) → Fin (tcTables nBuf tb) → BufTy
  | .hbm, ⟨0, _⟩ => ⟨S2x2048, .f32⟩
  | .hbm, ⟨1, _⟩ => ⟨S62x128, .f32⟩
  | .hbm, ⟨2, _⟩ => ⟨S2x1024, .f32⟩
  | .hbm, ⟨3, _⟩ => ⟨S2x1024, .f32⟩
  | .hbm, ⟨4, _⟩ => ⟨S2x2048, .f32⟩
  | .hbm, ⟨5, _⟩ => ⟨S62x128, .f32⟩
  | .hbm, ⟨6, _⟩ => ⟨S2x1024, .f32⟩
  | .hbm, ⟨7, _⟩ => ⟨S2x1024, .f32⟩
  | .hbm, ⟨8, _⟩ => ⟨S2x2048, .f32⟩
  | .hbm, ⟨9, _⟩ => ⟨S62x128, .f32⟩
  | .hbm, ⟨10, _⟩ => ⟨S2x1024, .f32⟩
  | .hbm, ⟨11, _⟩ => ⟨S2x1024, .f32⟩
  | .hbm, ⟨12, _⟩ => ⟨S2x2048, .f32⟩
  | .hbm, ⟨13, _⟩ => ⟨S62x128, .f32⟩
  | .hbm, ⟨14, _⟩ => ⟨S2x1024, .f32⟩
  | .hbm, ⟨15, _⟩ => ⟨S2x1024, .f32⟩
  | .hbm, ⟨16, _⟩ => ⟨S2x2048, .f32⟩
  | .hbm, ⟨17, _⟩ => ⟨S62x128, .f32⟩
  | .hbm, ⟨18, _⟩ => ⟨S2x1024, .f32⟩
  | .hbm, ⟨19, _⟩ => ⟨S2x1024, .f32⟩
  | .hbm, ⟨20, _⟩ => ⟨S2x2048, .f32⟩
  | .hbm, ⟨21, _⟩ => ⟨S62x128, .f32⟩
  | .hbm, ⟨22, _⟩ => ⟨S2x1024, .f32⟩
  | .hbm, ⟨23, _⟩ => ⟨S2x1024, .f32⟩
  | .hbm, ⟨24, _⟩ => ⟨S2x2048, .f32⟩
  | .hbm, ⟨25, _⟩ => ⟨S62x128, .f32⟩
  | .hbm, ⟨26, _⟩ => ⟨S2x1024, .f32⟩
  | .hbm, ⟨27, _⟩ => ⟨S2x1024, .f32⟩
  | .local _ .vmem, ⟨0, _⟩ => ⟨S2x2048, .f32⟩
  | .local _ .vmem, ⟨1, _⟩ => ⟨S62x128, .f32⟩
  | .local _ .vmem, ⟨2, _⟩ => ⟨S2x1024, .f32⟩
  | .local _ .vmem, ⟨3, _⟩ => ⟨S2x1024, .f32⟩
  | .local _ .vmem, ⟨4, _⟩ => ⟨S2x2048, .f32⟩
  | .local _ .vmem, ⟨5, _⟩ => ⟨S62x128, .f32⟩
  | .local _ .vmem, ⟨6, _⟩ => ⟨S2x1024, .f32⟩
  | .local _ .vmem, ⟨7, _⟩ => ⟨S2x1024, .f32⟩
  | .local _ .vmem, ⟨8, _⟩ => ⟨S2x2048, .f32⟩
  | .local _ .vmem, ⟨9, _⟩ => ⟨S62x128, .f32⟩
  | .local _ .vmem, ⟨10, _⟩ => ⟨S2x1024, .f32⟩
  | .local _ .vmem, ⟨11, _⟩ => ⟨S2x1024, .f32⟩
  | .local _ .vmem, ⟨12, _⟩ => ⟨S2x2048, .f32⟩
  | .local _ .vmem, ⟨13, _⟩ => ⟨S62x128, .f32⟩
  | .local _ .vmem, ⟨14, _⟩ => ⟨S2x1024, .f32⟩
  | .local _ .vmem, ⟨15, _⟩ => ⟨S2x1024, .f32⟩
  | .local _ .vmem, ⟨16, _⟩ => ⟨S2x2048, .f32⟩
  | .local _ .vmem, ⟨17, _⟩ => ⟨S62x128, .f32⟩
  | .local _ .vmem, ⟨18, _⟩ => ⟨S2x1024, .f32⟩
  | .local _ .vmem, ⟨19, _⟩ => ⟨S2x1024, .f32⟩
  | .local _ .vmem, ⟨20, _⟩ => ⟨S2x2048, .f32⟩
  | .local _ .vmem, ⟨21, _⟩ => ⟨S62x128, .f32⟩
  | .local _ .vmem, ⟨22, _⟩ => ⟨S2x1024, .f32⟩
  | .local _ .vmem, ⟨23, _⟩ => ⟨S2x1024, .f32⟩
  | .local _ .vmem, ⟨24, _⟩ => ⟨S2x2048, .f32⟩
  | .local _ .vmem, ⟨25, _⟩ => ⟨S62x128, .f32⟩
  | .local _ .vmem, ⟨26, _⟩ => ⟨S2x1024, .f32⟩
  | .local _ .vmem, ⟨27, _⟩ => ⟨S2x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S62x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S62x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S62x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S62x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S62x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S62x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x2048 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S62x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Kernel15Ideal.lean ====
abbrev S2x2048 : Shape := ⟨2, ![2, 2048]⟩
abbrev S62x128 : Shape := ⟨2, ![62, 128]⟩
abbrev S2x1024 : Shape := ⟨2, ![2, 1024]⟩

abbrev nBuf : Space → Nat
  | .hbm => 28
  | .vmem => 28
  | .smem => 0
  | _ => 0

abbrev bufTy : (tb : Table) → Fin (tcTables nBuf tb) → BufTy
  | .hbm, ⟨0, _⟩ => ⟨S2x2048, .f32⟩
  | .hbm, ⟨1, _⟩ => ⟨S62x128, .f32⟩
  | .hbm, ⟨2, _⟩ => ⟨S2x1024, .f32⟩
  | .hbm, ⟨3, _⟩ => ⟨S2x1024, .f32⟩
  | .hbm, ⟨4, _⟩ => ⟨S2x2048, .f32⟩
  | .hbm, ⟨5, _⟩ => ⟨S62x128, .f32⟩
  | .hbm, ⟨6, _⟩ => ⟨S2x1024, .f32⟩
  | .hbm, ⟨7, _⟩ => ⟨S2x1024, .f32⟩
  | .hbm, ⟨8, _⟩ => ⟨S2x2048, .f32⟩
  | .hbm, ⟨9, _⟩ => ⟨S62x128, .f32⟩
  | .hbm, ⟨10, _⟩ => ⟨S2x1024, .f32⟩
  | .hbm, ⟨11, _⟩ => ⟨S2x1024, .f32⟩
  | .hbm, ⟨12, _⟩ => ⟨S2x2048, .f32⟩
  | .hbm, ⟨13, _⟩ => ⟨S62x128, .f32⟩
  | .hbm, ⟨14, _⟩ => ⟨S2x1024, .f32⟩
  | .hbm, ⟨15, _⟩ => ⟨S2x1024, .f32⟩
  | .hbm, ⟨16, _⟩ => ⟨S2x2048, .f32⟩
  | .hbm, ⟨17, _⟩ => ⟨S62x128, .f32⟩
  | .hbm, ⟨18, _⟩ => ⟨S2x1024, .f32⟩
  | .hbm, ⟨19, _⟩ => ⟨S2x1024, .f32⟩
  | .hbm, ⟨20, _⟩ => ⟨S2x2048, .f32⟩
  | .hbm, ⟨21, _⟩ => ⟨S62x128, .f32⟩
  | .hbm, ⟨22, _⟩ => ⟨S2x1024, .f32⟩
  | .hbm, ⟨23, _⟩ => ⟨S2x1024, .f32⟩
  | .hbm, ⟨24, _⟩ => ⟨S2x2048, .f32⟩
  | .hbm, ⟨25, _⟩ => ⟨S62x128, .f32⟩
  | .hbm, ⟨26, _⟩ => ⟨S2x1024, .f32⟩
  | .hbm, ⟨27, _⟩ => ⟨S2x1024, .f32⟩
  | .local _ .vmem, ⟨0, _⟩ => ⟨S2x2048, .f32⟩
  | .local _ .vmem, ⟨1, _⟩ => ⟨S62x128, .f32⟩
  | .local _ .vmem, ⟨2, _⟩ => ⟨S2x1024, .f32⟩
  | .local _ .vmem, ⟨3, _⟩ => ⟨S2x1024, .f32⟩
  | .local _ .vmem, ⟨4, _⟩ => ⟨S2x2048, .f32⟩
  | .local _ .vmem, ⟨5, _⟩ => ⟨S62x128, .f32⟩
  | .local _ .vmem, ⟨6, _⟩ => ⟨S2x1024, .f32⟩
  | .local _ .vmem, ⟨7, _⟩ => ⟨S2x1024, .f32⟩
  | .local _ .vmem, ⟨8, _⟩ => ⟨S2x2048, .f32⟩
  | .local _ .vmem, ⟨9, _⟩ => ⟨S62x128, .f32⟩
  | .local _ .vmem, ⟨10, _⟩ => ⟨S2x1024, .f32⟩
  | .local _ .vmem, ⟨11, _⟩ => ⟨S2x1024, .f32⟩
  | .local _ .vmem, ⟨12, _⟩ => ⟨S2x2048, .f32⟩
  | .local _ .vmem, ⟨13, _⟩ => ⟨S62x128, .f32⟩
  | .local _ .vmem, ⟨14, _⟩ => ⟨S2x1024, .f32⟩
  | .local _ .vmem, ⟨15, _⟩ => ⟨S2x1024, .f32⟩
  | .local _ .vmem, ⟨16, _⟩ => ⟨S2x2048, .f32⟩
  | .local _ .vmem, ⟨17, _⟩ => ⟨S62x128, .f32⟩
  | .local _ .vmem, ⟨18, _⟩ => ⟨S2x1024, .f32⟩
  | .local _ .vmem, ⟨19, _⟩ => ⟨S2x1024, .f32⟩
  | .local _ .vmem, ⟨20, _⟩ => ⟨S2x2048, .f32⟩
  | .local _ .vmem, ⟨21, _⟩ => ⟨S62x128, .f32⟩
  | .local _ .vmem, ⟨22, _⟩ => ⟨S2x1024, .f32⟩
  | .local _ .vmem, ⟨23, _⟩ => ⟨S2x1024, .f32⟩
  | .local _ .vmem, ⟨24, _⟩ => ⟨S2x2048, .f32⟩
  | .local _ .vmem, ⟨25, _⟩ => ⟨S62x128, .f32⟩
  | .local _ .vmem, ⟨26, _⟩ => ⟨S2x1024, .f32⟩
  | .local _ .vmem, ⟨27, _⟩ => ⟨S2x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S62x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S62x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S62x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S62x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S62x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S62x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x2048 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S62x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Reference15Ideal.lean ====
abbrev S2x2048 : Shape := ⟨2, ![2, 2048]⟩
abbrev S62x128 : Shape := ⟨2, ![62, 128]⟩
abbrev S2x1024 : Shape := ⟨2, ![2, 1024]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S2x2048, .f32⟩
  | 1 => ⟨S62x128, .f32⟩
  | 2 => ⟨S2x1024, .f32⟩
  | 3 => ⟨S2x1024, .f32⟩
  | 4 => ⟨S2x2048, .f32⟩
  | 5 => ⟨S62x128, .f32⟩
  | 6 => ⟨S2x1024, .f32⟩
  | 7 => ⟨S2x1024, .f32⟩
  | 8 => ⟨S2x2048, .f32⟩
  | 9 => ⟨S62x128, .f32⟩
  | 10 => ⟨S2x1024, .f32⟩
  | 11 => ⟨S2x1024, .f32⟩
  | 12 => ⟨S2x2048, .f32⟩
  | 13 => ⟨S62x128, .f32⟩
  | 14 => ⟨S2x1024, .f32⟩
  | 15 => ⟨S2x1024, .f32⟩
  | 16 => ⟨S_, .f32⟩
  | 17 => ⟨S2x2048, .f32⟩
  | 18 => ⟨S2x2048, .f32⟩
  | 19 => ⟨S_, .f32⟩
  | 20 => ⟨S2x2048, .f32⟩
  | 21 => ⟨S2x2048, .f32⟩
  | 22 => ⟨S2x2048, .f32⟩
  | 23 => ⟨S_, .f32⟩
  | 24 => ⟨S2x2048, .f32⟩
  | 25 => ⟨S2x2048, .f32⟩
  | 26 => ⟨S2x2048, .f32⟩
  | 27 => ⟨S_, .f32⟩
  | 28 => ⟨S2x2048, .f32⟩
  | 29 => ⟨S2x2048, .f32⟩
  | 30 => ⟨S2x2048, .f32⟩
  | 31 => ⟨S_, .f32⟩
  | 32 => ⟨S2x2048, .f32⟩
  | 33 => ⟨S2x2048, .f32⟩
  | 34 => ⟨S_, .f32⟩
  | 35 => ⟨S2x2048, .f32⟩
  | 36 => ⟨S2x2048, .f32⟩
  | 37 => ⟨S2x2048, .f32⟩
  | 38 => ⟨S_, .f32⟩
  | 39 => ⟨S2x2048, .f32⟩
  | 40 => ⟨S2x2048, .f32⟩
  | 41 => ⟨S2x2048, .f32⟩
  | 42 => ⟨S_, .f32⟩
  | 43 => ⟨S2x2048, .f32⟩
  | 44 => ⟨S2x2048, .f32⟩
  | 45 => ⟨S2x2048, .f32⟩
  | 46 => ⟨S_, .f32⟩
  | 47 => ⟨S2x2048, .f32⟩
  | 48 => ⟨S2x2048, .f32⟩
  | 49 => ⟨S_, .f32⟩
  | 50 => ⟨S62x128, .f32⟩
  | 51 => ⟨S62x128, .f32⟩
  | 52 => ⟨S_, .f32⟩
  | 53 => ⟨S62x128, .f32⟩
  | 54 => ⟨S62x128, .f32⟩
  | 55 => ⟨S62x128, .f32⟩
  | 56 => ⟨S_, .f32⟩
  | 57 => ⟨S62x128, .f32⟩
  | 58 => ⟨S62x128, .f32⟩
  | 59 => ⟨S62x128, .f32⟩
  | 60 => ⟨S_, .f32⟩
  | 61 => ⟨S62x128, .f32⟩
  | 62 => ⟨S62x128, .f32⟩
  | 63 => ⟨S62x128, .f32⟩
  | 64 => ⟨S_, .f32⟩
  | 65 => ⟨S62x128, .f32⟩
  | 66 => ⟨S62x128, .f32⟩
  | 67 => ⟨S_, .f32⟩
  | 68 => ⟨S62x128, .f32⟩
  | 69 => ⟨S62x128, .f32⟩
  | 70 => ⟨S62x128, .f32⟩
  | 71 => ⟨S_, .f32⟩
  | 72 => ⟨S62x128, .f32⟩
  | 73 => ⟨S62x128, .f32⟩
  | 74 => ⟨S62x128, .f32⟩
  | 75 => ⟨S_, .f32⟩
  | 76 => ⟨S62x128, .f32⟩
  | 77 => ⟨S62x128, .f32⟩
  | 78 => ⟨S62x128, .f32⟩
  | 79 => ⟨S_, .f32⟩
  | 80 => ⟨S62x128, .f32⟩
  | 81 => ⟨S62x128, .f32⟩
  | 82 => ⟨S_, .f32⟩
  | 83 => ⟨S2x1024, .f32⟩
  | 84 => ⟨S2x1024, .f32⟩
  | 85 => ⟨S_, .f32⟩
  | 86 => ⟨S2x1024, .f32⟩
  | 87 => ⟨S2x1024, .f32⟩
  | 88 => ⟨S2x1024, .f32⟩
  | 89 => ⟨S_, .f32⟩
  | 90 => ⟨S2x1024, .f32⟩
  | 91 => ⟨S2x1024, .f32⟩
  | 92 => ⟨S2x1024, .f32⟩
  | 93 => ⟨S_, .f32⟩
  | 94 => ⟨S2x1024, .f32⟩
  | 95 => ⟨S2x1024, .f32⟩
  | 96 => ⟨S2x1024, .f32⟩
  | 97 => ⟨S_, .f32⟩
  | 98 => ⟨S2x1024, .f32⟩
  | 99 => ⟨S2x1024, .f32⟩
  | 100 => ⟨S_, .f32⟩
  | 101 => ⟨S2x1024, .f32⟩
  | 102 => ⟨S2x1024, .f32⟩
  | 103 => ⟨S2x1024, .f32⟩
  | 104 => ⟨S_, .f32⟩
  | 105 => ⟨S2x1024, .f32⟩
  | 106 => ⟨S2x1024, .f32⟩
  | 107 => ⟨S2x1024, .f32⟩
  | 108 => ⟨S_, .f32⟩
  | 109 => ⟨S2x1024, .f32⟩
  | 110 => ⟨S2x1024, .f32⟩
  | 111 => ⟨S2x1024, .f32⟩
  | 112 => ⟨S_, .f32⟩
  | 113 => ⟨S2x1024, .f32⟩
  | 114 => ⟨S2x1024, .f32⟩
  | 115 => ⟨S_, .f32⟩
  | 116 => ⟨S2x1024, .f32⟩
  | 117 => ⟨S2x1024, .f32⟩
  | 118 => ⟨S_, .f32⟩
  | 119 => ⟨S2x1024, .f32⟩
  | 120 => ⟨S2x1024, .f32⟩
  | 121 => ⟨S2x1024, .f32⟩
  | 122 => ⟨S_, .f32⟩
  | 123 => ⟨S2x1024, .f32⟩
  | 124 => ⟨S2x1024, .f32⟩
  | 125 => ⟨S2x1024, .f32⟩
  | 126 => ⟨S_, .f32⟩
  | 127 => ⟨S2x1024, .f32⟩
  | _ => ⟨S2x2048, .f32⟩

abbrev hbmTy0_1 (i : Nat) : BufTy := match i % 128 with
  | 0 => ⟨S2x1024, .f32⟩
  | 1 => ⟨S2x1024, .f32⟩
  | 2 => ⟨S_, .f32⟩
  | 3 => ⟨S2x1024, .f32⟩
  | 4 => ⟨S2x1024, .f32⟩
  | 5 => ⟨S_, .f32⟩
  | 6 => ⟨S2x1024, .f32⟩
  | 7 => ⟨S2x1024, .f32⟩
  | 8 => ⟨S2x1024, .f32⟩
  | 9 => ⟨S_, .f32⟩
  | 10 => ⟨S2x1024, .f32⟩
  | 11 => ⟨S2x1024, .f32⟩
  | 12 => ⟨S2x1024, .f32⟩
  | 13 => ⟨S_, .f32⟩
  | 14 => ⟨S2x1024, .f32⟩
  | 15 => ⟨S2x1024, .f32⟩
  | 16 => ⟨S2x1024, .f32⟩
  | 17 => ⟨S_, .f32⟩
  | 18 => ⟨S2x1024, .f32⟩
  | 19 => ⟨S2x1024, .f32⟩
  | _ => ⟨S2x2048, .f32⟩

abbrev hbmTy (i : Nat) : BufTy := match i / 128 with
  | 0 => hbmTy0_0 i
  | 1 => hbmTy0_1 i
  | _ => ⟨S2x2048, .f32⟩

abbrev bufTy : (tb : Table) → Fin (tcTables nBuf tb) → BufTy
  | .hbm, ⟨i, _⟩ => hbmTy i
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel16.lean ====
abbrev S2x1024 : Shape := ⟨2, ![2, 1024]⟩
abbrev S8x256 : Shape := ⟨2, ![8, 256]⟩

abbrev nBuf : Space → Nat
  | .hbm => 21
  | .vmem => 21
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S8x256, .f32⟩
  | .hbm, ⟨3, _⟩ => ⟨S2x1024, .f32⟩
  | .hbm, ⟨4, _⟩ => ⟨S2x1024, .f32⟩
  | .hbm, ⟨5, _⟩ => ⟨S8x256, .f32⟩
  | .hbm, ⟨6, _⟩ => ⟨S2x1024, .f32⟩
  | .hbm, ⟨7, _⟩ => ⟨S2x1024, .f32⟩
  | .hbm, ⟨8, _⟩ => ⟨S8x256, .f32⟩
  | .hbm, ⟨9, _⟩ => ⟨S2x1024, .f32⟩
  | .hbm, ⟨10, _⟩ => ⟨S2x1024, .f32⟩
  | .hbm, ⟨11, _⟩ => ⟨S8x256, .f32⟩
  | .hbm, ⟨12, _⟩ => ⟨S2x1024, .f32⟩
  | .hbm, ⟨13, _⟩ => ⟨S2x1024, .f32⟩
  | .hbm, ⟨14, _⟩ => ⟨S8x256, .f32⟩
  | .hbm, ⟨15, _⟩ => ⟨S2x1024, .f32⟩
  | .hbm, ⟨16, _⟩ => ⟨S2x1024, .f32⟩
  | .hbm, ⟨17, _⟩ => ⟨S8x256, .f32⟩
  | .hbm, ⟨18, _⟩ => ⟨S2x1024, .f32⟩
  | .hbm, ⟨19, _⟩ => ⟨S2x1024, .f32⟩
  | .hbm, ⟨20, _⟩ => ⟨S8x256, .f32⟩
  | .local _ .vmem, ⟨0, _⟩ => ⟨S2x1024, .f32⟩
  | .local _ .vmem, ⟨1, _⟩ => ⟨S2x1024, .f32⟩
  | .local _ .vmem, ⟨2, _⟩ => ⟨S8x256, .f32⟩
  | .local _ .vmem, ⟨3, _⟩ => ⟨S2x1024, .f32⟩
  | .local _ .vmem, ⟨4, _⟩ => ⟨S2x1024, .f32⟩
  | .local _ .vmem, ⟨5, _⟩ => ⟨S8x256, .f32⟩
  | .local _ .vmem, ⟨6, _⟩ => ⟨S2x1024, .f32⟩
  | .local _ .vmem, ⟨7, _⟩ => ⟨S2x1024, .f32⟩
  | .local _ .vmem, ⟨8, _⟩ => ⟨S8x256, .f32⟩
  | .local _ .vmem, ⟨9, _⟩ => ⟨S2x1024, .f32⟩
  | .local _ .vmem, ⟨10, _⟩ => ⟨S2x1024, .f32⟩
  | .local _ .vmem, ⟨11, _⟩ => ⟨S8x256, .f32⟩
  | .local _ .vmem, ⟨12, _⟩ => ⟨S2x1024, .f32⟩
  | .local _ .vmem, ⟨13, _⟩ => ⟨S2x1024, .f32⟩
  | .local _ .vmem, ⟨14, _⟩ => ⟨S8x256, .f32⟩
  | .local _ .vmem, ⟨15, _⟩ => ⟨S2x1024, .f32⟩
  | .local _ .vmem, ⟨16, _⟩ => ⟨S2x1024, .f32⟩
  | .local _ .vmem, ⟨17, _⟩ => ⟨S8x256, .f32⟩
  | .local _ .vmem, ⟨18, _⟩ => ⟨S2x1024, .f32⟩
  | .local _ .vmem, ⟨19, _⟩ => ⟨S2x1024, .f32⟩
  | .local _ .vmem, ⟨20, _⟩ => ⟨S8x256, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S8x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S8x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Kernel16Ideal.lean ====
abbrev S2x1024 : Shape := ⟨2, ![2, 1024]⟩
abbrev S8x256 : Shape := ⟨2, ![8, 256]⟩

abbrev nBuf : Space → Nat
  | .hbm => 21
  | .vmem => 21
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S8x256, .f32⟩
  | .hbm, ⟨3, _⟩ => ⟨S2x1024, .f32⟩
  | .hbm, ⟨4, _⟩ => ⟨S2x1024, .f32⟩
  | .hbm, ⟨5, _⟩ => ⟨S8x256, .f32⟩
  | .hbm, ⟨6, _⟩ => ⟨S2x1024, .f32⟩
  | .hbm, ⟨7, _⟩ => ⟨S2x1024, .f32⟩
  | .hbm, ⟨8, _⟩ => ⟨S8x256, .f32⟩
  | .hbm, ⟨9, _⟩ => ⟨S2x1024, .f32⟩
  | .hbm, ⟨10, _⟩ => ⟨S2x1024, .f32⟩
  | .hbm, ⟨11, _⟩ => ⟨S8x256, .f32⟩
  | .hbm, ⟨12, _⟩ => ⟨S2x1024, .f32⟩
  | .hbm, ⟨13, _⟩ => ⟨S2x1024, .f32⟩
  | .hbm, ⟨14, _⟩ => ⟨S8x256, .f32⟩
  | .hbm, ⟨15, _⟩ => ⟨S2x1024, .f32⟩
  | .hbm, ⟨16, _⟩ => ⟨S2x1024, .f32⟩
  | .hbm, ⟨17, _⟩ => ⟨S8x256, .f32⟩
  | .hbm, ⟨18, _⟩ => ⟨S2x1024, .f32⟩
  | .hbm, ⟨19, _⟩ => ⟨S2x1024, .f32⟩
  | .hbm, ⟨20, _⟩ => ⟨S8x256, .f32⟩
  | .local _ .vmem, ⟨0, _⟩ => ⟨S2x1024, .f32⟩
  | .local _ .vmem, ⟨1, _⟩ => ⟨S2x1024, .f32⟩
  | .local _ .vmem, ⟨2, _⟩ => ⟨S8x256, .f32⟩
  | .local _ .vmem, ⟨3, _⟩ => ⟨S2x1024, .f32⟩
  | .local _ .vmem, ⟨4, _⟩ => ⟨S2x1024, .f32⟩
  | .local _ .vmem, ⟨5, _⟩ => ⟨S8x256, .f32⟩
  | .local _ .vmem, ⟨6, _⟩ => ⟨S2x1024, .f32⟩
  | .local _ .vmem, ⟨7, _⟩ => ⟨S2x1024, .f32⟩
  | .local _ .vmem, ⟨8, _⟩ => ⟨S8x256, .f32⟩
  | .local _ .vmem, ⟨9, _⟩ => ⟨S2x1024, .f32⟩
  | .local _ .vmem, ⟨10, _⟩ => ⟨S2x1024, .f32⟩
  | .local _ .vmem, ⟨11, _⟩ => ⟨S8x256, .f32⟩
  | .local _ .vmem, ⟨12, _⟩ => ⟨S2x1024, .f32⟩
  | .local _ .vmem, ⟨13, _⟩ => ⟨S2x1024, .f32⟩
  | .local _ .vmem, ⟨14, _⟩ => ⟨S8x256, .f32⟩
  | .local _ .vmem, ⟨15, _⟩ => ⟨S2x1024, .f32⟩
  | .local _ .vmem, ⟨16, _⟩ => ⟨S2x1024, .f32⟩
  | .local _ .vmem, ⟨17, _⟩ => ⟨S8x256, .f32⟩
  | .local _ .vmem, ⟨18, _⟩ => ⟨S2x1024, .f32⟩
  | .local _ .vmem, ⟨19, _⟩ => ⟨S2x1024, .f32⟩
  | .local _ .vmem, ⟨20, _⟩ => ⟨S8x256, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S8x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S8x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference16Ideal.lean ====
abbrev S2x1024 : Shape := ⟨2, ![2, 1024]⟩
abbrev S8x256 : Shape := ⟨2, ![8, 256]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S8x256, .f32⟩
  | .hbm, ⟨3, _⟩ => ⟨S2x1024, .f32⟩
  | .hbm, ⟨4, _⟩ => ⟨S2x1024, .f32⟩
  | .hbm, ⟨5, _⟩ => ⟨S8x256, .f32⟩
  | .hbm, ⟨6, _⟩ => ⟨S2x1024, .f32⟩
  | .hbm, ⟨7, _⟩ => ⟨S2x1024, .f32⟩
  | .hbm, ⟨8, _⟩ => ⟨S8x256, .f32⟩
  | .hbm, ⟨9, _⟩ => ⟨S2x1024, .f32⟩
  | .hbm, ⟨10, _⟩ => ⟨S2x1024, .f32⟩
  | .hbm, ⟨11, _⟩ => ⟨S8x256, .f32⟩
  | .hbm, ⟨12, _⟩ => ⟨S_, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S_, .f32⟩
  | .hbm, ⟨24, _⟩ => ⟨S2x1024, .f32⟩
  | .hbm, ⟨25, _⟩ => ⟨S2x1024, .f32⟩
  | .hbm, ⟨26, _⟩ => ⟨S2x1024, .f32⟩
  | .hbm, ⟨27, _⟩ => ⟨S_, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | .hbm, ⟨37, _⟩ => ⟨S2x1024, .f32⟩
  | .hbm, ⟨38, _⟩ => ⟨S_, .f32⟩
  | .hbm, ⟨39, _⟩ => ⟨S2x1024, .f32⟩
  | .hbm, ⟨40, _⟩ => ⟨S2x1024, .f32⟩
  | .hbm, ⟨41, _⟩ => ⟨S2x1024, .f32⟩
  | .hbm, ⟨42, _⟩ => ⟨S_, .f32⟩
  | .hbm, ⟨43, _⟩ => ⟨S2x1024, .f32⟩
  | .hbm, ⟨44, _⟩ => ⟨S2x1024, .f32⟩
  | .hbm, ⟨45, _⟩ => ⟨S_, .f32⟩
  | .hbm, ⟨46, _⟩ => ⟨S2x1024, .f32⟩
  | .hbm, ⟨47, _⟩ => ⟨S2x1024, .f32⟩
  | .hbm, ⟨48, _⟩ => ⟨S_, .f32⟩
  | .hbm, ⟨49, _⟩ => ⟨S2x1024, .f32⟩
  | .hbm, ⟨50, _⟩ => ⟨S2x1024, .f32⟩
  | .hbm, ⟨51, _⟩ => ⟨S2x1024, .f32⟩
  | .hbm, ⟨52, _⟩ => ⟨S_, .f32⟩
  | .hbm, ⟨53, _⟩ => ⟨S2x1024, .f32⟩
  | .hbm, ⟨54, _⟩ => ⟨S2x1024, .f32⟩
  | .hbm, ⟨55, _⟩ => ⟨S2x1024, .f32⟩
  | .hbm, ⟨56, _⟩ => ⟨S_, .f32⟩
  | .hbm, ⟨57, _⟩ => ⟨S2x1024, .f32⟩
  | .hbm, ⟨58, _⟩ => ⟨S2x1024, .f32⟩
  | .hbm, ⟨59, _⟩ => ⟨S2x1024, .f32⟩
  | .hbm, ⟨60, _⟩ => ⟨S_, .f32⟩
  | .hbm, ⟨61, _⟩ => ⟨S2x1024, .f32⟩
  | .hbm, ⟨62, _⟩ => ⟨S2x1024, .f32⟩
  | .hbm, ⟨63, _⟩ => ⟨S_, .f32⟩
  | .hbm, ⟨64, _⟩ => ⟨S2x1024, .f32⟩
  | .hbm, ⟨65, _⟩ => ⟨S2x1024, .f32⟩
  | .hbm, ⟨66, _⟩ => ⟨S2x1024, .f32⟩
  | .hbm, ⟨67, _⟩ => ⟨S_, .f32⟩
  | .hbm, ⟨68, _⟩ => ⟨S2x1024, .f32⟩
  | .hbm, ⟨69, _⟩ => ⟨S2x1024, .f32⟩
  | .hbm, ⟨70, _⟩ => ⟨S2x1024, .f32⟩
  | .hbm, ⟨71, _⟩ => ⟨S_, .f32⟩
  | .hbm, ⟨72, _⟩ => ⟨S2x1024, .f32⟩
  | .hbm, ⟨73, _⟩ => ⟨S2x1024, .f32⟩
  | .hbm, ⟨74, _⟩ => ⟨S2x1024, .f32⟩
  | .hbm, ⟨75, _⟩ => ⟨S_, .f32⟩
  | .hbm, ⟨76, _⟩ => ⟨S2x1024, .f32⟩
  | .hbm, ⟨77, _⟩ => ⟨S2x1024, .f32⟩
  | .hbm, ⟨78, _⟩ => ⟨S_, .f32⟩
  | .hbm, ⟨79, _⟩ => ⟨S8x256, .f32⟩
  | .hbm, ⟨80, _⟩ => ⟨S8x256, .f32⟩
  | .hbm, ⟨81, _⟩ => ⟨S_, .f32⟩
  | .hbm, ⟨82, _⟩ => ⟨S8x256, .f32⟩
  | .hbm, ⟨83, _⟩ => ⟨S8x256, .f32⟩
  | .hbm, ⟨84, _⟩ => ⟨S8x256, .f32⟩
  | .hbm, ⟨85, _⟩ => ⟨S_, .f32⟩
  | .hbm, ⟨86, _⟩ => ⟨S8x256, .f32⟩
  | .hbm, ⟨87, _⟩ => ⟨S8x256, .f32⟩
  | .hbm, ⟨88, _⟩ => ⟨S8x256, .f32⟩
  | .hbm, ⟨89, _⟩ => ⟨S_, .f32⟩
  | .hbm, ⟨90, _⟩ => ⟨S8x256, .f32⟩
  | .hbm, ⟨91, _⟩ => ⟨S8x256, .f32⟩
  | .hbm, ⟨92, _⟩ => ⟨S8x256, .f32⟩
  | .hbm, ⟨93, _⟩ => ⟨S_, .f32⟩
  | .hbm, ⟨94, _⟩ => ⟨S8x256, .f32⟩
  | .hbm, ⟨95, _⟩ => ⟨S8x256, .f32⟩
  | .hbm, ⟨96, _⟩ => ⟨S_, .f32⟩
  | .hbm, ⟨97, _⟩ => ⟨S8x256, .f32⟩
  | .hbm, ⟨98, _⟩ => ⟨S8x256, .f32⟩
  | .hbm, ⟨99, _⟩ => ⟨S8x256, .f32⟩
  | .hbm, ⟨100, _⟩ => ⟨S_, .f32⟩
  | .hbm, ⟨101, _⟩ => ⟨S8x256, .f32⟩
  | .hbm, ⟨102, _⟩ => ⟨S8x256, .f32⟩
  | .hbm, ⟨103, _⟩ => ⟨S8x256, .f32⟩
  | .hbm, ⟨104, _⟩ => ⟨S_, .f32⟩
  | .hbm, ⟨105, _⟩ => ⟨S8x256, .f32⟩
  | .hbm, ⟨106, _⟩ => ⟨S8x256, .f32⟩
  | .hbm, ⟨107, _⟩ => ⟨S8x256, .f32⟩
  | .hbm, ⟨108, _⟩ => ⟨S_, .f32⟩
  | .hbm, ⟨109, _⟩ => ⟨S8x256, .f32⟩
  | .hbm, ⟨110, _⟩ => ⟨S8x256, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel17.lean ====
abbrev S2x8 : Shape := ⟨2, ![2, 8]⟩
abbrev S2x128 : Shape := ⟨2, ![2, 128]⟩

abbrev nBuf : Space → Nat
  | .hbm => 21
  | .vmem => 21
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x128, .f32⟩
  | .hbm, ⟨3, _⟩ => ⟨S2x8, .f32⟩
  | .hbm, ⟨4, _⟩ => ⟨S2x8, .f32⟩
  | .hbm, ⟨5, _⟩ => ⟨S2x128, .f32⟩
  | .hbm, ⟨6, _⟩ => ⟨S2x8, .f32⟩
  | .hbm, ⟨7, _⟩ => ⟨S2x8, .f32⟩
  | .hbm, ⟨8, _⟩ => ⟨S2x128, .f32⟩
  | .hbm, ⟨9, _⟩ => ⟨S2x8, .f32⟩
  | .hbm, ⟨10, _⟩ => ⟨S2x8, .f32⟩
  | .hbm, ⟨11, _⟩ => ⟨S2x128, .f32⟩
  | .hbm, ⟨12, _⟩ => ⟨S2x8, .f32⟩
  | .hbm, ⟨13, _⟩ => ⟨S2x8, .f32⟩
  | .hbm, ⟨14, _⟩ => ⟨S2x128, .f32⟩
  | .hbm, ⟨15, _⟩ => ⟨S2x8, .f32⟩
  | .hbm, ⟨16, _⟩ => ⟨S2x8, .f32⟩
  | .hbm, ⟨17, _⟩ => ⟨S2x128, .f32⟩
  | .hbm, ⟨18, _⟩ => ⟨S2x8, .f32⟩
  | .hbm, ⟨19, _⟩ => ⟨S2x8, .f32⟩
  | .hbm, ⟨20, _⟩ => ⟨S2x128, .f32⟩
  | .local _ .vmem, ⟨0, _⟩ => ⟨S2x8, .f32⟩
  | .local _ .vmem, ⟨1, _⟩ => ⟨S2x8, .f32⟩
  | .local _ .vmem, ⟨2, _⟩ => ⟨S2x128, .f32⟩
  | .local _ .vmem, ⟨3, _⟩ => ⟨S2x8, .f32⟩
  | .local _ .vmem, ⟨4, _⟩ => ⟨S2x8, .f32⟩
  | .local _ .vmem, ⟨5, _⟩ => ⟨S2x128, .f32⟩
  | .local _ .vmem, ⟨6, _⟩ => ⟨S2x8, .f32⟩
  | .local _ .vmem, ⟨7, _⟩ => ⟨S2x8, .f32⟩
  | .local _ .vmem, ⟨8, _⟩ => ⟨S2x128, .f32⟩
  | .local _ .vmem, ⟨9, _⟩ => ⟨S2x8, .f32⟩
  | .local _ .vmem, ⟨10, _⟩ => ⟨S2x8, .f32⟩
  | .local _ .vmem, ⟨11, _⟩ => ⟨S2x128, .f32⟩
  | .local _ .vmem, ⟨12, _⟩ => ⟨S2x8, .f32⟩
  | .local _ .vmem, ⟨13, _⟩ => ⟨S2x8, .f32⟩
  | .local _ .vmem, ⟨14, _⟩ => ⟨S2x128, .f32⟩
  | .local _ .vmem, ⟨15, _⟩ => ⟨S2x8, .f32⟩
  | .local _ .vmem, ⟨16, _⟩ => ⟨S2x8, .f32⟩
  | .local _ .vmem, ⟨17, _⟩ => ⟨S2x128, .f32⟩
  | .local _ .vmem, ⟨18, _⟩ => ⟨S2x8, .f32⟩
  | .local _ .vmem, ⟨19, _⟩ => ⟨S2x8, .f32⟩
  | .local _ .vmem, ⟨20, _⟩ => ⟨S2x128, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Kernel17Ideal.lean ====
abbrev S2x8 : Shape := ⟨2, ![2, 8]⟩
abbrev S2x128 : Shape := ⟨2, ![2, 128]⟩

abbrev nBuf : Space → Nat
  | .hbm => 21
  | .vmem => 21
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x128, .f32⟩
  | .hbm, ⟨3, _⟩ => ⟨S2x8, .f32⟩
  | .hbm, ⟨4, _⟩ => ⟨S2x8, .f32⟩
  | .hbm, ⟨5, _⟩ => ⟨S2x128, .f32⟩
  | .hbm, ⟨6, _⟩ => ⟨S2x8, .f32⟩
  | .hbm, ⟨7, _⟩ => ⟨S2x8, .f32⟩
  | .hbm, ⟨8, _⟩ => ⟨S2x128, .f32⟩
  | .hbm, ⟨9, _⟩ => ⟨S2x8, .f32⟩
  | .hbm, ⟨10, _⟩ => ⟨S2x8, .f32⟩
  | .hbm, ⟨11, _⟩ => ⟨S2x128, .f32⟩
  | .hbm, ⟨12, _⟩ => ⟨S2x8, .f32⟩
  | .hbm, ⟨13, _⟩ => ⟨S2x8, .f32⟩
  | .hbm, ⟨14, _⟩ => ⟨S2x128, .f32⟩
  | .hbm, ⟨15, _⟩ => ⟨S2x8, .f32⟩
  | .hbm, ⟨16, _⟩ => ⟨S2x8, .f32⟩
  | .hbm, ⟨17, _⟩ => ⟨S2x128, .f32⟩
  | .hbm, ⟨18, _⟩ => ⟨S2x8, .f32⟩
  | .hbm, ⟨19, _⟩ => ⟨S2x8, .f32⟩
  | .hbm, ⟨20, _⟩ => ⟨S2x128, .f32⟩
  | .local _ .vmem, ⟨0, _⟩ => ⟨S2x8, .f32⟩
  | .local _ .vmem, ⟨1, _⟩ => ⟨S2x8, .f32⟩
  | .local _ .vmem, ⟨2, _⟩ => ⟨S2x128, .f32⟩
  | .local _ .vmem, ⟨3, _⟩ => ⟨S2x8, .f32⟩
  | .local _ .vmem, ⟨4, _⟩ => ⟨S2x8, .f32⟩
  | .local _ .vmem, ⟨5, _⟩ => ⟨S2x128, .f32⟩
  | .local _ .vmem, ⟨6, _⟩ => ⟨S2x8, .f32⟩
  | .local _ .vmem, ⟨7, _⟩ => ⟨S2x8, .f32⟩
  | .local _ .vmem, ⟨8, _⟩ => ⟨S2x128, .f32⟩
  | .local _ .vmem, ⟨9, _⟩ => ⟨S2x8, .f32⟩
  | .local _ .vmem, ⟨10, _⟩ => ⟨S2x8, .f32⟩
  | .local _ .vmem, ⟨11, _⟩ => ⟨S2x128, .f32⟩
  | .local _ .vmem, ⟨12, _⟩ => ⟨S2x8, .f32⟩
  | .local _ .vmem, ⟨13, _⟩ => ⟨S2x8, .f32⟩
  | .local _ .vmem, ⟨14, _⟩ => ⟨S2x128, .f32⟩
  | .local _ .vmem, ⟨15, _⟩ => ⟨S2x8, .f32⟩
  | .local _ .vmem, ⟨16, _⟩ => ⟨S2x8, .f32⟩
  | .local _ .vmem, ⟨17, _⟩ => ⟨S2x128, .f32⟩
  | .local _ .vmem, ⟨18, _⟩ => ⟨S2x8, .f32⟩
  | .local _ .vmem, ⟨19, _⟩ => ⟨S2x8, .f32⟩
  | .local _ .vmem, ⟨20, _⟩ => ⟨S2x128, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference17Ideal.lean ====
abbrev S2x8 : Shape := ⟨2, ![2, 8]⟩
abbrev S2x128 : Shape := ⟨2, ![2, 128]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x128, .f32⟩
  | .hbm, ⟨3, _⟩ => ⟨S2x8, .f32⟩
  | .hbm, ⟨4, _⟩ => ⟨S2x8, .f32⟩
  | .hbm, ⟨5, _⟩ => ⟨S2x128, .f32⟩
  | .hbm, ⟨6, _⟩ => ⟨S2x8, .f32⟩
  | .hbm, ⟨7, _⟩ => ⟨S2x8, .f32⟩
  | .hbm, ⟨8, _⟩ => ⟨S2x128, .f32⟩
  | .hbm, ⟨9, _⟩ => ⟨S2x8, .f32⟩
  | .hbm, ⟨10, _⟩ => ⟨S2x8, .f32⟩
  | .hbm, ⟨11, _⟩ => ⟨S2x128, .f32⟩
  | .hbm, ⟨12, _⟩ => ⟨S_, .f32⟩
  | .hbm, ⟨13, _⟩ => ⟨S2x8, .f32⟩
  | .hbm, ⟨14, _⟩ => ⟨S2x8, .f32⟩
  | .hbm, ⟨15, _⟩ => ⟨S_, .f32⟩
  | .hbm, ⟨16, _⟩ => ⟨S2x8, .f32⟩
  | .hbm, ⟨17, _⟩ => ⟨S2x8, .f32⟩
  | .hbm, ⟨18, _⟩ => ⟨S2x8, .f32⟩
  | .hbm, ⟨19, _⟩ => ⟨S_, .f32⟩
  | .hbm, ⟨20, _⟩ => ⟨S2x8, .f32⟩
  | .hbm, ⟨21, _⟩ => ⟨S2x8, .f32⟩
  | .hbm, ⟨22, _⟩ => ⟨S2x8, .f32⟩
  | .hbm, ⟨23, _⟩ => ⟨S_, .f32⟩
  | .hbm, ⟨24, _⟩ => ⟨S2x8, .f32⟩
  | .hbm, ⟨25, _⟩ => ⟨S2x8, .f32⟩
  | .hbm, ⟨26, _⟩ => ⟨S2x8, .f32⟩
  | .hbm, ⟨27, _⟩ => ⟨S_, .f32⟩
  | .hbm, ⟨28, _⟩ => ⟨S2x8, .f32⟩
  | .hbm, ⟨29, _⟩ => ⟨S2x8, .f32⟩
  | .hbm, ⟨30, _⟩ => ⟨S_, .f32⟩
  | .hbm, ⟨31, _⟩ => ⟨S2x8, .f32⟩
  | .hbm, ⟨32, _⟩ => ⟨S2x8, .f32⟩
  | .hbm, ⟨33, _⟩ => ⟨S2x8, .f32⟩
  | .hbm, ⟨34, _⟩ => ⟨S_, .f32⟩
  | .hbm, ⟨35, _⟩ => ⟨S2x8, .f32⟩
  | .hbm, ⟨36, _⟩ => ⟨S2x8, .f32⟩
  | .hbm, ⟨37, _⟩ => ⟨S2x8, .f32⟩
  | .hbm, ⟨38, _⟩ => ⟨S_, .f32⟩
  | .hbm, ⟨39, _⟩ => ⟨S2x8, .f32⟩
  | .hbm, ⟨40, _⟩ => ⟨S2x8, .f32⟩
  | .hbm, ⟨41, _⟩ => ⟨S2x8, .f32⟩
  | .hbm, ⟨42, _⟩ => ⟨S_, .f32⟩
  | .hbm, ⟨43, _⟩ => ⟨S2x8, .f32⟩
  | .hbm, ⟨44, _⟩ => ⟨S2x8, .f32⟩
  | .hbm, ⟨45, _⟩ => ⟨S_, .f32⟩
  | .hbm, ⟨46, _⟩ => ⟨S2x8, .f32⟩
  | .hbm, ⟨47, _⟩ => ⟨S2x8, .f32⟩
  | .hbm, ⟨48, _⟩ => ⟨S_, .f32⟩
  | .hbm, ⟨49, _⟩ => ⟨S2x8, .f32⟩
  | .hbm, ⟨50, _⟩ => ⟨S2x8, .f32⟩
  | .hbm, ⟨51, _⟩ => ⟨S2x8, .f32⟩
  | .hbm, ⟨52, _⟩ => ⟨S_, .f32⟩
  | .hbm, ⟨53, _⟩ => ⟨S2x8, .f32⟩
  | .hbm, ⟨54, _⟩ => ⟨S2x8, .f32⟩
  | .hbm, ⟨55, _⟩ => ⟨S2x8, .f32⟩
  | .hbm, ⟨56, _⟩ => ⟨S_, .f32⟩
  | .hbm, ⟨57, _⟩ => ⟨S2x8, .f32⟩
  | .hbm, ⟨58, _⟩ => ⟨S2x8, .f32⟩
  | .hbm, ⟨59, _⟩ => ⟨S2x8, .f32⟩
  | .hbm, ⟨60, _⟩ => ⟨S_, .f32⟩
  | .hbm, ⟨61, _⟩ => ⟨S2x8, .f32⟩
  | .hbm, ⟨62, _⟩ => ⟨S2x8, .f32⟩
  | .hbm, ⟨63, _⟩ => ⟨S_, .f32⟩
  | .hbm, ⟨64, _⟩ => ⟨S2x8, .f32⟩
  | .hbm, ⟨65, _⟩ => ⟨S2x8, .f32⟩
  | .hbm, ⟨66, _⟩ => ⟨S2x8, .f32⟩
  | .hbm, ⟨67, _⟩ => ⟨S_, .f32⟩
  | .hbm, ⟨68, _⟩ => ⟨S2x8, .f32⟩
  | .hbm, ⟨69, _⟩ => ⟨S2x8, .f32⟩
  | .hbm, ⟨70, _⟩ => ⟨S2x8, .f32⟩
  | .hbm, ⟨71, _⟩ => ⟨S_, .f32⟩
  | .hbm, ⟨72, _⟩ => ⟨S2x8, .f32⟩
  | .hbm, ⟨73, _⟩ => ⟨S2x8, .f32⟩
  | .hbm, ⟨74, _⟩ => ⟨S2x8, .f32⟩
  | .hbm, ⟨75, _⟩ => ⟨S_, .f32⟩
  | .hbm, ⟨76, _⟩ => ⟨S2x8, .f32⟩
  | .hbm, ⟨77, _⟩ => ⟨S2x8, .f32⟩
  | .hbm, ⟨78, _⟩ => ⟨S_, .f32⟩
  | .hbm, ⟨79, _⟩ => ⟨S2x128, .f32⟩
  | .hbm, ⟨80, _⟩ => ⟨S2x128, .f32⟩
  | .hbm, ⟨81, _⟩ => ⟨S_, .f32⟩
  | .hbm, ⟨82, _⟩ => ⟨S2x128, .f32⟩
  | .hbm, ⟨83, _⟩ => ⟨S2x128, .f32⟩
  | .hbm, ⟨84, _⟩ => ⟨S2x128, .f32⟩
  | .hbm, ⟨85, _⟩ => ⟨S_, .f32⟩
  | .hbm, ⟨86, _⟩ => ⟨S2x128, .f32⟩
  | .hbm, ⟨87, _⟩ => ⟨S2x128, .f32⟩
  | .hbm, ⟨88, _⟩ => ⟨S2x128, .f32⟩
  | .hbm, ⟨89, _⟩ => ⟨S_, .f32⟩
  | .hbm, ⟨90, _⟩ => ⟨S2x128, .f32⟩
  | .hbm, ⟨91, _⟩ => ⟨S2x128, .f32⟩
  | .hbm, ⟨92, _⟩ => ⟨S2x128, .f32⟩
  | .hbm, ⟨93, _⟩ => ⟨S_, .f32⟩
  | .hbm, ⟨94, _⟩ => ⟨S2x128, .f32⟩
  | .hbm, ⟨95, _⟩ => ⟨S2x128, .f32⟩
  | .hbm, ⟨96, _⟩ => ⟨S_, .f32⟩
  | .hbm, ⟨97, _⟩ => ⟨S2x128, .f32⟩
  | .hbm, ⟨98, _⟩ => ⟨S2x128, .f32⟩
  | .hbm, ⟨99, _⟩ => ⟨S2x128, .f32⟩
  | .hbm, ⟨100, _⟩ => ⟨S_, .f32⟩
  | .hbm, ⟨101, _⟩ => ⟨S2x128, .f32⟩
  | .hbm, ⟨102, _⟩ => ⟨S2x128, .f32⟩
  | .hbm, ⟨103, _⟩ => ⟨S2x128, .f32⟩
  | .hbm, ⟨104, _⟩ => ⟨S_, .f32⟩
  | .hbm, ⟨105, _⟩ => ⟨S2x128, .f32⟩
  | .hbm, ⟨106, _⟩ => ⟨S2x128, .f32⟩
  | .hbm, ⟨107, _⟩ => ⟨S2x128, .f32⟩
  | .hbm, ⟨108, _⟩ => ⟨S_, .f32⟩
  | .hbm, ⟨109, _⟩ => ⟨S2x128, .f32⟩
  | .hbm, ⟨110, _⟩ => ⟨S2x128, .f32⟩
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel18.lean ====
abbrev S2x2048 : Shape := ⟨2, ![2, 2048]⟩
abbrev S6x704 : Shape := ⟨2, ![6, 704]⟩
abbrev S2x5632 : Shape := ⟨2, ![2, 5632]⟩
abbrev S1x2048 : Shape := ⟨2, ![1, 2048]⟩

abbrev nBuf : Space → Nat
  | .hbm => 28
  | .vmem => 28
  | .smem => 0
  | _ => 0

abbrev bufTy : (tb : Table) → Fin (tcTables nBuf tb) → BufTy
  | .hbm, ⟨0, _⟩ => ⟨S2x2048, .f32⟩
  | .hbm, ⟨1, _⟩ => ⟨S6x704, .f32⟩
  | .hbm, ⟨2, _⟩ => ⟨S2x5632, .f32⟩
  | .hbm, ⟨3, _⟩ => ⟨S1x2048, .f32⟩
  | .hbm, ⟨4, _⟩ => ⟨S2x2048, .f32⟩
  | .hbm, ⟨5, _⟩ => ⟨S6x704, .f32⟩
  | .hbm, ⟨6, _⟩ => ⟨S2x5632, .f32⟩
  | .hbm, ⟨7, _⟩ => ⟨S1x2048, .f32⟩
  | .hbm, ⟨8, _⟩ => ⟨S2x2048, .f32⟩
  | .hbm, ⟨9, _⟩ => ⟨S6x704, .f32⟩
  | .hbm, ⟨10, _⟩ => ⟨S2x5632, .f32⟩
  | .hbm, ⟨11, _⟩ => ⟨S1x2048, .f32⟩
  | .hbm, ⟨12, _⟩ => ⟨S2x2048, .f32⟩
  | .hbm, ⟨13, _⟩ => ⟨S6x704, .f32⟩
  | .hbm, ⟨14, _⟩ => ⟨S2x5632, .f32⟩
  | .hbm, ⟨15, _⟩ => ⟨S1x2048, .f32⟩
  | .hbm, ⟨16, _⟩ => ⟨S2x2048, .f32⟩
  | .hbm, ⟨17, _⟩ => ⟨S6x704, .f32⟩
  | .hbm, ⟨18, _⟩ => ⟨S2x5632, .f32⟩
  | .hbm, ⟨19, _⟩ => ⟨S1x2048, .f32⟩
  | .hbm, ⟨20, _⟩ => ⟨S2x2048, .f32⟩
  | .hbm, ⟨21, _⟩ => ⟨S6x704, .f32⟩
  | .hbm, ⟨22, _⟩ => ⟨S2x5632, .f32⟩
  | .hbm, ⟨23, _⟩ => ⟨S1x2048, .f32⟩
  | .hbm, ⟨24, _⟩ => ⟨S2x2048, .f32⟩
  | .hbm, ⟨25, _⟩ => ⟨S6x704, .f32⟩
  | .hbm, ⟨26, _⟩ => ⟨S2x5632, .f32⟩
  | .hbm, ⟨27, _⟩ => ⟨S1x2048, .f32⟩
  | .local _ .vmem, ⟨0, _⟩ => ⟨S2x2048, .f32⟩
  | .local _ .vmem, ⟨1, _⟩ => ⟨S6x704, .f32⟩
  | .local _ .vmem, ⟨2, _⟩ => ⟨S2x5632, .f32⟩
  | .local _ .vmem, ⟨3, _⟩ => ⟨S1x2048, .f32⟩
  | .local _ .vmem, ⟨4, _⟩ => ⟨S2x2048, .f32⟩
  | .local _ .vmem, ⟨5, _⟩ => ⟨S6x704, .f32⟩
  | .local _ .vmem, ⟨6, _⟩ => ⟨S2x5632, .f32⟩
  | .local _ .vmem, ⟨7, _⟩ => ⟨S1x2048, .f32⟩
  | .local _ .vmem, ⟨8, _⟩ => ⟨S2x2048, .f32⟩
  | .local _ .vmem, ⟨9, _⟩ => ⟨S6x704, .f32⟩
  | .local _ .vmem, ⟨10, _⟩ => ⟨S2x5632, .f32⟩
  | .local _ .vmem, ⟨11, _⟩ => ⟨S1x2048, .f32⟩
  | .local _ .vmem, ⟨12, _⟩ => ⟨S2x2048, .f32⟩
  | .local _ .vmem, ⟨13, _⟩ => ⟨S6x704, .f32⟩
  | .local _ .vmem, ⟨14, _⟩ => ⟨S2x5632, .f32⟩
  | .local _ .vmem, ⟨15, _⟩ => ⟨S1x2048, .f32⟩
  | .local _ .vmem, ⟨16, _⟩ => ⟨S2x2048, .f32⟩
  | .local _ .vmem, ⟨17, _⟩ => ⟨S6x704, .f32⟩
  | .local _ .vmem, ⟨18, _⟩ => ⟨S2x5632, .f32⟩
  | .local _ .vmem, ⟨19, _⟩ => ⟨S1x2048, .f32⟩
  | .local _ .vmem, ⟨20, _⟩ => ⟨S2x2048, .f32⟩
  | .local _ .vmem, ⟨21, _⟩ => ⟨S6x704, .f32⟩
  | .local _ .vmem, ⟨22, _⟩ => ⟨S2x5632, .f32⟩
  | .local _ .vmem, ⟨23, _⟩ => ⟨S1x2048, .f32⟩
  | .local _ .vmem, ⟨24, _⟩ => ⟨S2x2048, .f32⟩
  | .local _ .vmem, ⟨25, _⟩ => ⟨S6x704, .f32⟩
  | .local _ .vmem, ⟨26, _⟩ => ⟨S2x5632, .f32⟩
  | .local _ .vmem, ⟨27, _⟩ => ⟨S1x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x704 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x704 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S6x704 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x5632 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S6x704 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x5632 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x2048 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x2048 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S6x704 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x5632 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x2048 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Reference18Ideal.lean ====
abbrev S2x2048 : Shape := ⟨2, ![2, 2048]⟩
abbrev S6x704 : Shape := ⟨2, ![6, 704]⟩
abbrev S2x5632 : Shape := ⟨2, ![2, 5632]⟩
abbrev S1x2048 : Shape := ⟨2, ![1, 2048]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S2x2048, .f32⟩
  | 1 => ⟨S6x704, .f32⟩
  | 2 => ⟨S2x5632, .f32⟩
  | 3 => ⟨S1x2048, .f32⟩
  | 4 => ⟨S2x2048, .f32⟩
  | 5 => ⟨S6x704, .f32⟩
  | 6 => ⟨S2x5632, .f32⟩
  | 7 => ⟨S1x2048, .f32⟩
  | 8 => ⟨S2x2048, .f32⟩
  | 9 => ⟨S6x704, .f32⟩
  | 10 => ⟨S2x5632, .f32⟩
  | 11 => ⟨S1x2048, .f32⟩
  | 12 => ⟨S2x2048, .f32⟩
  | 13 => ⟨S6x704, .f32⟩
  | 14 => ⟨S2x5632, .f32⟩
  | 15 => ⟨S1x2048, .f32⟩
  | 16 => ⟨S_, .f32⟩
  | 17 => ⟨S2x2048, .f32⟩
  | 18 => ⟨S2x2048, .f32⟩
  | 19 => ⟨S_, .f32⟩
  | 20 => ⟨S2x2048, .f32⟩
  | 21 => ⟨S2x2048, .f32⟩
  | 22 => ⟨S2x2048, .f32⟩
  | 23 => ⟨S_, .f32⟩
  | 24 => ⟨S2x2048, .f32⟩
  | 25 => ⟨S2x2048, .f32⟩
  | 26 => ⟨S2x2048, .f32⟩
  | 27 => ⟨S_, .f32⟩
  | 28 => ⟨S2x2048, .f32⟩
  | 29 => ⟨S2x2048, .f32⟩
  | 30 => ⟨S2x2048, .f32⟩
  | 31 => ⟨S_, .f32⟩
  | 32 => ⟨S2x2048, .f32⟩
  | 33 => ⟨S2x2048, .f32⟩
  | 34 => ⟨S_, .f32⟩
  | 35 => ⟨S2x2048, .f32⟩
  | 36 => ⟨S2x2048, .f32⟩
  | 37 => ⟨S2x2048, .f32⟩
  | 38 => ⟨S_, .f32⟩
  | 39 => ⟨S2x2048, .f32⟩
  | 40 => ⟨S2x2048, .f32⟩
  | 41 => ⟨S2x2048, .f32⟩
  | 42 => ⟨S_, .f32⟩
  | 43 => ⟨S2x2048, .f32⟩
  | 44 => ⟨S2x2048, .f32⟩
  | 45 => ⟨S2x2048, .f32⟩
  | 46 => ⟨S_, .f32⟩
  | 47 => ⟨S2x2048, .f32⟩
  | 48 => ⟨S2x2048, .f32⟩
  | 49 => ⟨S_, .f32⟩
  | 50 => ⟨S6x704, .f32⟩
  | 51 => ⟨S6x704, .f32⟩
  | 52 => ⟨S_, .f32⟩
  | 53 => ⟨S6x704, .f32⟩
  | 54 => ⟨S6x704, .f32⟩
  | 55 => ⟨S6x704, .f32⟩
  | 56 => ⟨S_, .f32⟩
  | 57 => ⟨S6x704, .f32⟩
  | 58 => ⟨S6x704, .f32⟩
  | 59 => ⟨S6x704, .f32⟩
  | 60 => ⟨S_, .f32⟩
  | 61 => ⟨S6x704, .f32⟩
  | 62 => ⟨S6x704, .f32⟩
  | 63 => ⟨S6x704, .f32⟩
  | 64 => ⟨S_, .f32⟩
  | 65 => ⟨S6x704, .f32⟩
  | 66 => ⟨S6x704, .f32⟩
  | 67 => ⟨S_, .f32⟩
  | 68 => ⟨S6x704, .f32⟩
  | 69 => ⟨S6x704, .f32⟩
  | 70 => ⟨S6x704, .f32⟩
  | 71 => ⟨S_, .f32⟩
  | 72 => ⟨S6x704, .f32⟩
  | 73 => ⟨S6x704, .f32⟩
  | 74 => ⟨S6x704, .f32⟩
  | 75 => ⟨S_, .f32⟩
  | 76 => ⟨S6x704, .f32⟩
  | 77 => ⟨S6x704, .f32⟩
  | 78 => ⟨S6x704, .f32⟩
  | 79 => ⟨S_, .f32⟩
  | 80 => ⟨S6x704, .f32⟩
  | 81 => ⟨S6x704, .f32⟩
  | 82 => ⟨S_, .f32⟩
  | 83 => ⟨S2x5632, .f32⟩
  | 84 => ⟨S2x5632, .f32⟩
  | 85 => ⟨S_, .f32⟩
  | 86 => ⟨S2x5632, .f32⟩
  | 87 => ⟨S2x5632, .f32⟩
  | 88 => ⟨S2x5632, .f32⟩
  | 89 => ⟨S_, .f32⟩
  | 90 => ⟨S2x5632, .f32⟩
  | 91 => ⟨S2x5632, .f32⟩
  | 92 => ⟨S2x5632, .f32⟩
  | 93 => ⟨S_, .f32⟩
  | 94 => ⟨S2x5632, .f32⟩
  | 95 => ⟨S2x5632, .f32⟩
  | 96 => ⟨S2x5632, .f32⟩
  | 97 => ⟨S_, .f32⟩
  | 98 => ⟨S2x5632, .f32⟩
  | 99 => ⟨S2x5632, .f32⟩
  | 100 => ⟨S_, .f32⟩
  | 101 => ⟨S2x5632, .f32⟩
  | 102 => ⟨S2x5632, .f32⟩
  | 103 => ⟨S2x5632, .f32⟩
  | 104 => ⟨S_, .f32⟩
  | 105 => ⟨S2x5632, .f32⟩
  | 106 => ⟨S2x5632, .f32⟩
  | 107 => ⟨S2x5632, .f32⟩
  | 108 => ⟨S_, .f32⟩
  | 109 => ⟨S2x5632, .f32⟩
  | 110 => ⟨S2x5632, .f32⟩
  | 111 => ⟨S2x5632, .f32⟩
  | 112 => ⟨S_, .f32⟩
  | 113 => ⟨S2x5632, .f32⟩
  | 114 => ⟨S2x5632, .f32⟩
  | 115 => ⟨S_, .f32⟩
  | 116 => ⟨S1x2048, .f32⟩
  | 117 => ⟨S1x2048, .f32⟩
  | 118 => ⟨S_, .f32⟩
  | 119 => ⟨S1x2048, .f32⟩
  | 120 => ⟨S1x2048, .f32⟩
  | 121 => ⟨S1x2048, .f32⟩
  | 122 => ⟨S_, .f32⟩
  | 123 => ⟨S1x2048, .f32⟩
  | 124 => ⟨S1x2048, .f32⟩
  | 125 => ⟨S1x2048, .f32⟩
  | 126 => ⟨S_, .f32⟩
  | 127 => ⟨S1x2048, .f32⟩
  | _ => ⟨S2x2048, .f32⟩

abbrev hbmTy0_1 (i : Nat) : BufTy := match i % 128 with
  | 0 => ⟨S1x2048, .f32⟩
  | 1 => ⟨S1x2048, .f32⟩
  | 2 => ⟨S_, .f32⟩
  | 3 => ⟨S1x2048, .f32⟩
  | 4 => ⟨S1x2048, .f32⟩
  | 5 => ⟨S_, .f32⟩
  | 6 => ⟨S1x2048, .f32⟩
  | 7 => ⟨S1x2048, .f32⟩
  | 8 => ⟨S1x2048, .f32⟩
  | 9 => ⟨S_, .f32⟩
  | 10 => ⟨S1x2048, .f32⟩
  | 11 => ⟨S1x2048, .f32⟩
  | 12 => ⟨S1x2048, .f32⟩
  | 13 => ⟨S_, .f32⟩
  | 14 => ⟨S1x2048, .f32⟩
  | 15 => ⟨S1x2048, .f32⟩
  | 16 => ⟨S1x2048, .f32⟩
  | 17 => ⟨S_, .f32⟩
  | 18 => ⟨S1x2048, .f32⟩
  | 19 => ⟨S1x2048, .f32⟩
  | _ => ⟨S2x2048, .f32⟩

abbrev hbmTy (i : Nat) : BufTy := match i / 128 with
  | 0 => hbmTy0_0 i
  | 1 => hbmTy0_1 i
  | _ => ⟨S2x2048, .f32⟩

abbrev bufTy : (tb : Table) → Fin (tcTables nBuf tb) → BufTy
  | .hbm, ⟨i, _⟩ => hbmTy i
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel19.lean ====
abbrev S2x704x2048 : Shape := ⟨3, ![2, 704, 2048]⟩
abbrev S8x704x2048 : Shape := ⟨3, ![8, 704, 2048]⟩
abbrev S1x64x2048 : Shape := ⟨3, ![1, 64, 2048]⟩
abbrev S8x64x2048 : Shape := ⟨3, ![8, 64, 2048]⟩
abbrev S64x2048 : Shape := ⟨2, ![64, 2048]⟩

abbrev nBuf : Space → Nat
  | .hbm => 13
  | .vmem => 32
  | .smem => 0
  | _ => 0

abbrev bufTy : (tb : Table) → Fin (tcTables nBuf tb) → BufTy
  | .hbm, ⟨0, _⟩ => ⟨S2x704x2048, .f32⟩
  | .hbm, ⟨1, _⟩ => ⟨S2x704x2048, .f32⟩
  | .hbm, ⟨2, _⟩ => ⟨S2x704x2048, .f32⟩
  | .hbm, ⟨3, _⟩ => ⟨S8x704x2048, .bf16⟩
  | .hbm, ⟨4, _⟩ => ⟨S8x704x2048, .bf16⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .hbm, ⟨9, _⟩ => ⟨S2x704x2048, .f32⟩
  | .hbm, ⟨10, _⟩ => ⟨S2x704x2048, .f32⟩
  | .hbm, ⟨11, _⟩ => ⟨S2x704x2048, .f32⟩
  | .hbm, ⟨12, _⟩ => ⟨S2x704x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S8x64x2048, .bf16⟩
  | .local _ .vmem, ⟨7, _⟩ => ⟨S8x64x2048, .bf16⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | .local _ .vmem, ⟨22, _⟩ => ⟨S8x64x2048, .bf16⟩
  | .local _ .vmem, ⟨23, _⟩ => ⟨S8x64x2048, .bf16⟩
  | .local _ .vmem, ⟨24, _⟩ => ⟨S1x64x2048, .f32⟩
  | .local _ .vmem, ⟨25, _⟩ => ⟨S1x64x2048, .f32⟩
  | .local _ .vmem, ⟨26, _⟩ => ⟨S1x64x2048, .f32⟩
  | .local _ .vmem, ⟨27, _⟩ => ⟨S1x64x2048, .f32⟩
  | .local _ .vmem, ⟨28, _⟩ => ⟨S1x64x2048, .f32⟩
  | .local _ .vmem, ⟨29, _⟩ => ⟨S1x64x2048, .f32⟩
  | .local _ .vmem, ⟨30, _⟩ => ⟨S1x64x2048, .f32⟩
  | .local _ .vmem, ⟨31, _⟩ => ⟨S1x64x2048, .f32⟩
  | _, _ => ⟨S2x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![11], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x64x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x64x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x64x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x64x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x64x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference19Ideal.lean ====
abbrev S2x704x2048 : Shape := ⟨3, ![2, 704, 2048]⟩
abbrev S8x704x2048 : Shape := ⟨3, ![8, 704, 2048]⟩
abbrev S_ : Shape := ⟨0, ![]⟩
abbrev S704x2048 : Shape := ⟨2, ![704, 2048]⟩
abbrev S1x704x2048 : Shape := ⟨3, ![1, 704, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2x704x2048, .f32⟩
  | .hbm, ⟨1, _⟩ => ⟨S2x704x2048, .f32⟩
  | .hbm, ⟨2, _⟩ => ⟨S2x704x2048, .f32⟩
  | .hbm, ⟨3, _⟩ => ⟨S8x704x2048, .bf16⟩
  | .hbm, ⟨4, _⟩ => ⟨S8x704x2048, .bf16⟩
  | .hbm, ⟨5, _⟩ => ⟨S8x704x2048, .f32⟩
  | .hbm, ⟨6, _⟩ => ⟨S_, .f32⟩
  | .hbm, ⟨7, _⟩ => ⟨S704x2048, .f32⟩
  | .hbm, ⟨8, _⟩ => ⟨S8x704x2048, .f32⟩
  | .hbm, ⟨9, _⟩ => ⟨S_, .f32⟩
  | .hbm, ⟨10, _⟩ => ⟨S704x2048, .f32⟩
  | .hbm, ⟨11, _⟩ => ⟨S1x704x2048, .f32⟩
  | .hbm, ⟨12, _⟩ => ⟨S1x704x2048, .f32⟩
  | .hbm, ⟨13, _⟩ => ⟨S2x704x2048, .f32⟩
  | .hbm, ⟨14, _⟩ => ⟨S_, .f32⟩
  | .hbm, ⟨15, _⟩ => ⟨S2x704x2048, .f32⟩
  | .hbm, ⟨16, _⟩ => ⟨S2x704x2048, .f32⟩
  | .hbm, ⟨17, _⟩ => ⟨S_, .f32⟩
  | .hbm, ⟨18, _⟩ => ⟨S2x704x2048, .f32⟩
  | .hbm, ⟨19, _⟩ => ⟨S2x704x2048, .f32⟩
  | .hbm, ⟨20, _⟩ => ⟨S2x704x2048, .f32⟩
  | .hbm, ⟨21, _⟩ => ⟨S_, .f32⟩
  | .hbm, ⟨22, _⟩ => ⟨S2x704x2048, .f32⟩
  | .hbm, ⟨23, _⟩ => ⟨S2x704x2048, .f32⟩
  | .hbm, ⟨24, _⟩ => ⟨S2x704x2048, .f32⟩
  | .hbm, ⟨25, _⟩ => ⟨S_, .f32⟩
  | .hbm, ⟨26, _⟩ => ⟨S2x704x2048, .f32⟩
  | .hbm, ⟨27, _⟩ => ⟨S2x704x2048, .f32⟩
  | .hbm, ⟨28, _⟩ => ⟨S2x704x2048, .f32⟩
  | .hbm, ⟨29, _⟩ => ⟨S_, .f32⟩
  | .hbm, ⟨30, _⟩ => ⟨S2x704x2048, .f32⟩
  | .hbm, ⟨31, _⟩ => ⟨S2x704x2048, .f32⟩
  | .hbm, ⟨32, _⟩ => ⟨S_, .f32⟩
  | .hbm, ⟨33, _⟩ => ⟨S2x704x2048, .f32⟩
  | .hbm, ⟨34, _⟩ => ⟨S2x704x2048, .f32⟩
  | .hbm, ⟨35, _⟩ => ⟨S2x704x2048, .f32⟩
  | .hbm, ⟨36, _⟩ => ⟨S_, .f32⟩
  | .hbm, ⟨37, _⟩ => ⟨S2x704x2048, .f32⟩
  | .hbm, ⟨38, _⟩ => ⟨S2x704x2048, .f32⟩
  | .hbm, ⟨39, _⟩ => ⟨S2x704x2048, .f32⟩
  | .hbm, ⟨40, _⟩ => ⟨S_, .f32⟩
  | .hbm, ⟨41, _⟩ => ⟨S2x704x2048, .f32⟩
  | .hbm, ⟨42, _⟩ => ⟨S2x704x2048, .f32⟩
  | .hbm, ⟨43, _⟩ => ⟨S2x704x2048, .f32⟩
  | .hbm, ⟨44, _⟩ => ⟨S_, .f32⟩
  | .hbm, ⟨45, _⟩ => ⟨S2x704x2048, .f32⟩
  | .hbm, ⟨46, _⟩ => ⟨S2x704x2048, .f32⟩
  | _, _ => ⟨S2x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel20.lean ====
abbrev S8x1128x128 : Shape := ⟨3, ![8, 1128, 128]⟩
abbrev S1128x128 : Shape := ⟨2, ![1128, 128]⟩
abbrev S1x1128x128 : Shape := ⟨3, ![1, 1128, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1128x128, .f32⟩
  | .hbm, ⟨1, _⟩ => ⟨S1128x128, .f32⟩
  | .local _ .vmem, ⟨0, _⟩ => ⟨S8x1128x128, .f32⟩
  | .local _ .vmem, ⟨1, _⟩ => ⟨S1128x128, .f32⟩
  | _, _ => ⟨S8x1128x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference20Ideal.lean ====
abbrev S8x1128x128 : Shape := ⟨3, ![8, 1128, 128]⟩
abbrev S_ : Shape := ⟨0, ![]⟩
abbrev S1128x128 : Shape := ⟨2, ![1128, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1128x128, .f32⟩
  | .hbm, ⟨1, _⟩ => ⟨S_, .f32⟩
  | .hbm, ⟨2, _⟩ => ⟨S1128x128, .f32⟩
  | _, _ => ⟨S8x1128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel21.lean ====
abbrev S8x642x2048 : Shape := ⟨3, ![8, 642, 2048]⟩
abbrev S642x2048 : Shape := ⟨2, ![642, 2048]⟩
abbrev S8x642x512 : Shape := ⟨3, ![8, 642, 512]⟩
abbrev S642x512 : Shape := ⟨2, ![642, 512]⟩
abbrev S1x642x512 : Shape := ⟨3, ![1, 642, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x642x2048, .bf16⟩
  | .hbm, ⟨1, _⟩ => ⟨S642x2048, .f32⟩
  | .local _ .vmem, ⟨0, _⟩ => ⟨S8x642x512, .bf16⟩
  | .local _ .vmem, ⟨1, _⟩ => ⟨S8x642x512, .bf16⟩
  | .local _ .vmem, ⟨2, _⟩ => ⟨S642x512, .f32⟩
  | .local _ .vmem, ⟨3, _⟩ => ⟨S642x512, .f32⟩
  | _, _ => ⟨S8x642x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x642x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S642x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference21Ideal.lean ====
abbrev S8x642x2048 : Shape := ⟨3, ![8, 642, 2048]⟩
abbrev S_ : Shape := ⟨0, ![]⟩
abbrev S642x2048 : Shape := ⟨2, ![642, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x642x2048, .bf16⟩
  | .hbm, ⟨1, _⟩ => ⟨S8x642x2048, .f32⟩
  | .hbm, ⟨2, _⟩ => ⟨S_, .f32⟩
  | .hbm, ⟨3, _⟩ => ⟨S642x2048, .f32⟩
  | _, _ => ⟨S8x642x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.DownDx.lean ====
module

public import proofs.«01_k».proof.Defs
public import proofs.«01_k».proof.Proof.Gen.KernelIdeal.Value
public import proofs.«01_k».proof.Proof.Gen.Kernel
public import proofs.«01_k».proof.Proof.Gen.ReferenceIdeal.Run
public import Idealize.ShloMosaic.Lib.Pipeline.ValueKit
public import Idealize.ShloMosaic.Lib.Pipeline.ReadBack
public import Idealize.ShloMosaic.Lib.Pointwise

/-! The gradient of the down projection's input: each block is rows of `dx2` against rows of the weight. -/

@[expose] public section

set_option maxRecDepth 16384

noncomputable section

open Idealize.ShloMosaic Idealize.ShloMosaic.TcCoe Idealize.SL.Sem
open Idealize.ShloMosaic.Pipeline (Dat)

namespace Cert.ReferenceIdeal.DownDx

open Cert.ReferenceIdeal Cert.ReferenceIdeal.Gen

/-- The reference's result as a function of its arguments. -/
def result (x1 : FVec Ideal S5632x2048 .bf16) (x2 : FVec Ideal S4096x2048 .bf16) : FVec Ideal Cert.ReferenceIdeal.S4096x5632 .f32 :=
  Host.dotGeneral dot_S4096x2048_S5632x2048_S4096x5632_1_1_0_0_n_n none (extf .f32 x2 bitsLt_bf16_f32) (extf .f32 x1 bitsLt_bf16_f32)

end Cert.ReferenceIdeal.DownDx

namespace Cert.KernelIdeal.DownDx

open Cert.KernelIdeal Cert.KernelIdeal.Gen

variable (m : (ℓ : Loc nD τ sig) → Buf (Elt Ideal) ℓ)

/-- The reference's result over the kernel's arguments. -/
abbrev REF (c : Dev nD) : FVec Ideal Cert.ReferenceIdeal.S4096x5632 .f32 :=
  Cert.ReferenceIdeal.DownDx.result (m ((c : Thread nD τ).loc main_arg1)) (m ((c : Thread nD τ).loc main_arg2))

/-- Each window's block at each point of the grid. -/
theorem idx : ∀ t : Fin cfg0.N, win0_0.index t = ![t.val / 4, 0]
    ∧ win0_1.index t = ![t.val % 4, 0]
    ∧ win0_2.index t = ![t.val / 4, t.val % 4] :=
  (by decide +kernel : ∀ t : Fin grid0.N, _)

/-- What the body stores at a place of point `t`'s block is the reference's element there. -/
theorem point (c : Dev nD) (t : Fin cfg0.N) (y) :
    k0_pay1 (iblk m c 0 t) (iblk m c 1 t) y = REF m c (((cfg0.win 2).blk t).view.emb y) := by
  pointwise [k0_pay1, REF, Cert.ReferenceIdeal.DownDx.result]
  blk_point [iblk, V, idx t]

/-- The result array after the run is the reference's. -/
theorem final (c : Dev nD) : (dats m 0 c).arrAt 2 (cfgs 0).N = REF m c := by
  refine (dats m 0 c).arrAt_eq_of_covers 2 _ (by decide +kernel) fun t hf y => ?_
  blk_simp
  rw [after0_2]
  frame_out
  exact point m c t y

end Cert.KernelIdeal.DownDx

namespace Cert.DownDx

open Cert.Kernel.Gen

/-! The kernel's run gives both of its frames; with the reference's run, it gives the equality of the results. -/

theorem bodies : Cert.Kernel.defs₀ (F := Bits) = Cert.KernelIdeal.defs₀ (F := Bits) := by
  funext l p a
  cases l with
  | tc => match p, a with
    | ⟨0, _⟩, (t, s) => rfl
  | _ => rfl

theorem frame_kernel : Cert.quiescent_Kernel := fun m ρ _ => by
  rw [show Cert.Kernel.defs (F := Bits) = Cert.KernelIdeal.defs (F := Bits) from congrArg (Pipeline.defs Cert.Kernel.pcfgs) bodies]
  exact Cert.KernelIdeal.Gen.frame (F := Bits) m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := by
  pair_intro
  · run_from Cert.KernelIdeal.Gen.run_main m g
  · run_from Cert.ReferenceIdeal.Value.run m' g'
    exact (Cert.KernelIdeal.DownDx.final m c).symm

end Cert.DownDx

end
-- ==== Proof.DownDw.lean ====
module

public import proofs.«01_k».proof.Defs
public import proofs.«01_k».proof.Proof.Gen.Kernel2Ideal.Value
public import proofs.«01_k».proof.Proof.Gen.Kernel2
public import proofs.«01_k».proof.Proof.Gen.Reference2Ideal.Run
public import Idealize.ShloMosaic.Lib.Pipeline.ValueKit
public import Idealize.ShloMosaic.Lib.Pipeline.ReadBack
public import Idealize.ShloMosaic.Lib.Pointwise

/-! The gradient of the down projection's weight: each block is summed over two runs of tokens. -/

@[expose] public section

set_option maxRecDepth 16384

noncomputable section

open Idealize.ShloMosaic Idealize.ShloMosaic.TcCoe Idealize.SL.Sem
open Idealize.ShloMosaic.Pipeline (Dat)

namespace Cert.Reference2Ideal.DownDw

open Cert.Reference2Ideal Cert.Reference2Ideal.Gen

/-- The reference's result as a function of its arguments. -/
def result (x0 : FVec Ideal S4096x5632 .bf16) (x2 : FVec Ideal S4096x2048 .bf16) : FVec Ideal Cert.Reference2Ideal.S5632x2048 .bf16 :=
  truncf .bf16 (transpose S5632x2048 [1, 0] (Host.dotGeneral dot_S4096x2048_S4096x5632_S2048x5632_0_0_1_1_n_n none (extf .f32 x2 bitsLt_bf16_f32) (extf .f32 x0 bitsLt_bf16_f32)) transposes_S2048x5632_S5632x2048_1_0) bitsLt_bf16_f32

end Cert.Reference2Ideal.DownDw

namespace Cert.Kernel2Ideal.DownDw

open Cert.Kernel2Ideal Cert.Kernel2Ideal.Gen

variable (m : (ℓ : Loc nD τ sig) → Buf (Elt Ideal) ℓ)

/-- The reference's result over the kernel's arguments. -/
abbrev REF (c : Dev nD) : FVec Ideal Cert.Reference2Ideal.S5632x2048 .bf16 :=
  Cert.Reference2Ideal.DownDw.result (m ((c : Thread nD τ).loc main_arg0)) (m ((c : Thread nD τ).loc main_arg2))

/-- Each window's block at each point of the grid. -/
theorem idx : ∀ t : Fin cfg0.N, win0_0.index t = ![t.val % 2, t.val / 4]
    ∧ win0_1.index t = ![t.val % 2, t.val / 2 % 2]
    ∧ win0_2.index t = ![t.val / 4, t.val / 2 % 2] :=
  (by decide +kernel : ∀ t : Fin grid0.N, _)

/-- The sum after point `n`: the carried one, with the last point's product added. -/
def acc (c : Dev nD) (n : ℕ) (h : n < cfg0.N) (y : S1408x1024.Idx) : EReal :=
  if n % 2 = 1 then
    (outsAt0 m c (n - 1) (Nat.lt_of_le_of_lt (Nat.sub_le _ _) h)).2 y + k0_pay1 (F := Ideal) (iblk m c 0 ⟨n, h⟩) (iblk m c 1 ⟨n, h⟩) y
  else (outsAt0 m c n h).2 y

theorem reset (c : Dev nD) (t : Fin cfg0.N) (h : t.val % 2 = 0) (y : S1408x1024.Idx) :
    acc m c t t.isLt y = 0 + k0_pay1 (F := Ideal) (iblk m c 0 t) (iblk m c 1 t) y := by
  have h2 : ¬ t.val % 2 = 1 := by omega
  rw [acc, if_neg h2, outsAt0_A m c t h h2, zero_add]
  frame_out
  pointwise [k0_pay2]

theorem step (c : Dev nD) (t : Fin cfg0.N) (h : ¬ t.val % 2 = 0) (y : S1408x1024.Idx) :
    acc m c t t.isLt y = acc m c (t.val - 1) (Nat.lt_of_le_of_lt (Nat.sub_le _ _) t.isLt) y
      + k0_pay1 (F := Ideal) (iblk m c 0 t) (iblk m c 1 t) y := by
  have h2 : t.val % 2 = 1 := by omega
  rw [acc, if_pos h2, acc, if_neg (by omega)]

/-- What the last point of a block's run stores: the whole sum. -/
theorem out (c : Dev nD) (t : Fin cfg0.N) (h : t.val % 2 = 1) (y : S1408x1024.Idx) :
    (outsAt0 m c t.val t.isLt).1 y = acc m c t t.isLt y := by
  rw [acc, if_pos h, outsAt0_B m c t (by omega) h]
  frame_out
  pointwise [k0_pay4]
  rw [read_unread_whole]

/-- The result array after the run is the reference's. -/
theorem final (c : Dev nD) : (dats m 0 c).arrAt 2 (cfgs 0).N = REF m c := by
  refine (dats m 0 c).arrAt_eq_of_covers 2 _ (by decide +kernel) fun t hf y => ?_
  blk_simp
  have ht := (flush0_2 t).mp hf
  rw [after0_2]
  refine (out m c t ht y).trans ?_
  rw [Pipeline.eq_sum_fin_of_reset_step_apply_of_flush (acc m c) 2 (fun _ => 0) _ (reset m c) (step m c) t ht y, zero_add]
  pointwise [k0_pay1, REF, Cert.Reference2Ideal.DownDw.result]
  refine Fin.sum_mul_add_congr fun s k hl => ?_
  rw [mul_comm]
  blk_point [iblk, V, idx t, idx ⟨_, Pipeline.run_point_lt_of_flush t ht s⟩]

end Cert.Kernel2Ideal.DownDw

namespace Cert.DownDw

open Cert.Kernel2.Gen

/-! The kernel's run gives both of its frames; with the reference's run, it gives the equality of the results. -/

theorem bodies : Cert.Kernel2.defs₀ (F := Bits) = Cert.Kernel2Ideal.defs₀ (F := Bits) := by
  funext l p a
  cases l with
  | tc => match p, a with
    | ⟨0, _⟩, (t, s) => rfl
  | _ => rfl

theorem frame_kernel : Cert.quiescent_Kernel2 := fun m ρ _ => by
  rw [show Cert.Kernel2.defs (F := Bits) = Cert.Kernel2Ideal.defs (F := Bits) from congrArg (Pipeline.defs Cert.Kernel2.pcfgs) bodies]
  exact Cert.Kernel2Ideal.Gen.frame (F := Bits) m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal := by
  pair_intro
  · run_from Cert.Kernel2Ideal.Gen.run_main m g
  · run_from Cert.Reference2Ideal.Value.run m' g'
    exact (Cert.Kernel2Ideal.DownDw.final m c).symm

end Cert.DownDw

end
-- ==== Proof.UpDx.lean ====
module

public import proofs.«01_k».proof.Defs
public import proofs.«01_k».proof.Proof.Gen.Kernel3Ideal.Value
public import proofs.«01_k».proof.Proof.Gen.Kernel3
public import proofs.«01_k».proof.Proof.Gen.Reference3Ideal.Run
public import Idealize.ShloMosaic.Lib.Pipeline.ValueKit
public import Idealize.ShloMosaic.Lib.Pipeline.ReadBack
public import Idealize.ShloMosaic.Lib.Pointwise

/-! The gradient of the gate and up projections' input: each block is summed over the eight devices' columns. -/

@[expose] public section

set_option maxRecDepth 16384

noncomputable section

open Idealize.ShloMosaic Idealize.ShloMosaic.TcCoe Idealize.SL.Sem
open Idealize.ShloMosaic.Pipeline (Dat)

namespace Cert.Reference3Ideal.UpDx

open Cert.Reference3Ideal Cert.Reference3Ideal.Gen

/-- The reference's result as a function of its arguments. -/
def result (x1 : FVec Ideal S8x2048x1408 .bf16) (x2 : FVec Ideal S2x4096x5632 .bf16) : FVec Ideal Cert.Reference3Ideal.S4096x2048 .f32 :=
  Host.dotGeneral dot_S4096x11264_S2048x11264_S4096x2048_1_1_0_0_n_n none (extf .f32 (concatenate S4096x11264 1 [⟨S4096x5632, (shapeCast _ (extractStridedSlice S1x4096x5632 ![0, 0, 0] x2 slices_S2x4096x5632_S1x4096x5632_0_0_0) shapeCasts_S1x4096x5632_S4096x5632)⟩, ⟨S4096x5632, (shapeCast _ (extractStridedSlice S1x4096x5632 ![1, 0, 0] x2 slices_S2x4096x5632_S1x4096x5632_1_0_0) shapeCasts_S1x4096x5632_S4096x5632)⟩] concatenates_S4096x5632_S4096x5632_S4096x11264_d1) bitsLt_bf16_f32) (extf .f32 (shapeCast _ (transpose S2048x8x1408 [1, 0, 2] x1 transposes_S8x2048x1408_S2048x8x1408_1_0_2) shapeCasts_S2048x8x1408_S2048x11264) bitsLt_bf16_f32)

end Cert.Reference3Ideal.UpDx

namespace Cert.Kernel3Ideal.UpDx

open Cert.Kernel3Ideal Cert.Kernel3Ideal.Gen

variable (m : (ℓ : Loc nD τ sig) → Buf (Elt Ideal) ℓ)

/-- The reference's result over the kernel's arguments. -/
abbrev REF (c : Dev nD) : FVec Ideal Cert.Reference3Ideal.S4096x2048 .f32 :=
  Cert.Reference3Ideal.UpDx.result (m ((c : Thread nD τ).loc main_arg1)) (m ((c : Thread nD τ).loc main_arg2))

/-- Each window's block at each point of the grid. -/
theorem idx : ∀ t : Fin cfg0.N, win0_0.index t = ![t.val % 8 / 4, t.val / 8, t.val % 8 % 4]
    ∧ win0_1.index t = ![t.val % 8, 0, 0]
    ∧ win0_2.index t = ![t.val / 8, 0] :=
  (by decide +kernel : ∀ t : Fin grid0.N, _)

/-- The sum after point `n`: the carried one, with the last point's product added. -/
def acc (c : Dev nD) (n : ℕ) (h : n < cfg0.N) (y : S1024x2048.Idx) : EReal :=
  if n % 8 = 7 then
    (outsAt0 m c (n - 1) (Nat.lt_of_le_of_lt (Nat.sub_le _ _) h)).2 y + k0_pay1 (F := Ideal) (iblk m c 0 ⟨n, h⟩) (iblk m c 1 ⟨n, h⟩) y
  else (outsAt0 m c n h).2 y

theorem reset (c : Dev nD) (t : Fin cfg0.N) (h : t.val % 8 = 0) (y : S1024x2048.Idx) :
    acc m c t t.isLt y = 0 + k0_pay1 (F := Ideal) (iblk m c 0 t) (iblk m c 1 t) y := by
  have h2 : ¬ t.val % 8 = 7 := by omega
  rw [acc, if_neg h2, outsAt0_A m c t h (by omega) h2, zero_add]
  frame_out
  pointwise [k0_pay2]

theorem step (c : Dev nD) (t : Fin cfg0.N) (h : ¬ t.val % 8 = 0) (y : S1024x2048.Idx) :
    acc m c t t.isLt y = acc m c (t.val - 1) (Nat.lt_of_le_of_lt (Nat.sub_le _ _) t.isLt) y
      + k0_pay1 (F := Ideal) (iblk m c 0 t) (iblk m c 1 t) y := by
  by_cases h2 : t.val % 8 = 7
  · rw [acc, if_pos h2, acc, if_neg (by omega)]
  rw [acc, if_neg h2, acc, if_neg (by omega), outsAt0_B m c t h (by omega) h2]
  frame_out
  pointwise [k0_pay3]
  rw [read_unread_whole]

/-- What the last point of a block's run stores: the whole sum. -/
theorem out (c : Dev nD) (t : Fin cfg0.N) (h : t.val % 8 = 7) (y : S1024x2048.Idx) :
    (outsAt0 m c t.val t.isLt).1 y = acc m c t t.isLt y := by
  rw [acc, if_pos h, outsAt0_C m c t (by omega) (by omega) h]
  frame_out
  pointwise [k0_pay4]
  rw [read_unread_whole]

/-- The gradient's block at point `u`. -/
theorem grad (c : Dev nD) (u : Fin cfg0.N) (p : Fin 1024) (k : Fin 1408) (i : S2x4096x5632.Idx)
    (h0 : (i 0 : ℕ) = u.val % 8 / 4) (h1 : (i 1 : ℕ) = u.val / 8 * 1024 + p) (h2 : (i 2 : ℕ) = u.val % 8 % 4 * 1408 + k) :
    iblk m c 0 u (ix3 0 p k) = m ((c : Thread nD τ).loc main_arg2) i := by
  blk_point [iblk, V, idx u]

/-- The weight's block at point `u`. -/
theorem weight (c : Dev nD) (u : Fin cfg0.N) (q : Fin 2048) (k : Fin 1408) (j : S8x2048x1408.Idx)
    (h0 : (j 0 : ℕ) = u.val % 8) (h1 : (j 1 : ℕ) = q) (h2 : (j 2 : ℕ) = k) :
    iblk m c 1 u (ix3 0 q k) = m ((c : Thread nD τ).loc main_arg1) j := by
  blk_point [iblk, V, idx u]

/-- The result array after the run is the reference's. -/
theorem final (c : Dev nD) : (dats m 0 c).arrAt 2 (cfgs 0).N = REF m c := by
  refine (dats m 0 c).arrAt_eq_of_covers 2 _ (by decide +kernel) fun t hf y => ?_
  have ht := (flush0_2 t).mp hf
  blk_simp
  rw [after0_2]
  refine (out m c t ht y).trans ?_
  rw [Pipeline.eq_sum_fin_of_reset_step_apply_of_flush (acc m c) 8 (fun _ => 0) _ (reset m c) (step m c) t ht y, zero_add]
  pointwise [k0_pay1, REF, Cert.Reference3Ideal.UpDx.result]
  rw [Fin.sum_univ_add (a := 4) (b := 4)]
  refine congrArg₂ (· + ·) (Fin.sum_mul_add_congr fun s k hl => ?_) (Fin.sum_mul_add_congr fun s k hl => ?_)
  all_goals
    refine congrArg₂ (· * ·) (grad m c _ _ _ _ ?_ ?_ ?_) (weight m c _ _ _ _ ?_ ?_ ?_)
    all_goals
      have hs := s.isLt
      blk_simp [idx t]
      try simp only [Fin.val_castAdd, Fin.val_natAdd, Fin.val_zero, Fin.val_one]
      try omega

end Cert.Kernel3Ideal.UpDx

namespace Cert.UpDx

open Cert.Kernel3.Gen

/-! The kernel's run gives both of its frames; with the reference's run, it gives the equality of the results. -/

theorem bodies : Cert.Kernel3.defs₀ (F := Bits) = Cert.Kernel3Ideal.defs₀ (F := Bits) := by
  funext l p a
  cases l with
  | tc => match p, a with
    | ⟨0, _⟩, (t, s) => rfl
  | _ => rfl

theorem frame_kernel : Cert.quiescent_Kernel3 := fun m ρ _ => by
  rw [show Cert.Kernel3.defs (F := Bits) = Cert.Kernel3Ideal.defs (F := Bits) from congrArg (Pipeline.defs Cert.Kernel3.pcfgs) bodies]
  exact Cert.Kernel3Ideal.Gen.frame (F := Bits) m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  pair_intro
  · run_from Cert.Kernel3Ideal.Gen.run_main m g
  · run_from Cert.Reference3Ideal.Value.run m' g'
    exact (congrArg (Cert.Reference3Ideal.UpDx.result _) (hagree c).2.2).trans (Cert.Kernel3Ideal.UpDx.final m c).symm

end Cert.UpDx

end
-- ==== Proof.UpDw.lean ====
module

public import proofs.«01_k».proof.Defs
public import proofs.«01_k».proof.Proof.Gen.Kernel4Ideal.Value
public import proofs.«01_k».proof.Proof.Gen.Kernel4
public import proofs.«01_k».proof.Proof.Gen.Reference4Ideal.Run
public import Idealize.ShloMosaic.Lib.Pipeline.ValueKit
public import Idealize.ShloMosaic.Lib.Pipeline.ReadBack
public import Idealize.ShloMosaic.Lib.Pointwise

/-! The gradient of the gate and up projections' weight: each block is summed over two runs of tokens. -/

@[expose] public section

set_option maxRecDepth 16384

noncomputable section

open Idealize.ShloMosaic Idealize.ShloMosaic.TcCoe Idealize.SL.Sem
open Idealize.ShloMosaic.Pipeline (Dat)

namespace Cert.Reference4Ideal.UpDw

open Cert.Reference4Ideal Cert.Reference4Ideal.Gen

/-- The reference's result as a function of its arguments. -/
def result (x0 : FVec Ideal S4096x2048 .bf16) (x2 : FVec Ideal S2x4096x5632 .bf16) : FVec Ideal Cert.Reference4Ideal.S8x2048x1408 .bf16 :=
  truncf .bf16 (transpose S8x2048x1408 [1, 0, 2] (shapeCast _ (transpose S2048x11264 [1, 0] (Host.dotGeneral dot_S4096x11264_S4096x2048_S11264x2048_0_0_1_1_n_n none (extf .f32 (concatenate S4096x11264 1 [⟨S4096x5632, (shapeCast _ (extractStridedSlice S1x4096x5632 ![0, 0, 0] x2 slices_S2x4096x5632_S1x4096x5632_0_0_0) shapeCasts_S1x4096x5632_S4096x5632)⟩, ⟨S4096x5632, (shapeCast _ (extractStridedSlice S1x4096x5632 ![1, 0, 0] x2 slices_S2x4096x5632_S1x4096x5632_1_0_0) shapeCasts_S1x4096x5632_S4096x5632)⟩] concatenates_S4096x5632_S4096x5632_S4096x11264_d1) bitsLt_bf16_f32) (extf .f32 x0 bitsLt_bf16_f32)) transposes_S11264x2048_S2048x11264_1_0) shapeCasts_S2048x11264_S2048x8x1408) transposes_S2048x8x1408_S8x2048x1408_1_0_2) bitsLt_bf16_f32

end Cert.Reference4Ideal.UpDw

namespace Cert.Kernel4Ideal.UpDw

open Cert.Kernel4Ideal Cert.Kernel4Ideal.Gen

variable (m : (ℓ : Loc nD τ sig) → Buf (Elt Ideal) ℓ)

/-- The reference's result over the kernel's arguments. -/
abbrev REF (c : Dev nD) : FVec Ideal Cert.Reference4Ideal.S8x2048x1408 .bf16 :=
  Cert.Reference4Ideal.UpDw.result (m ((c : Thread nD τ).loc main_arg0)) (m ((c : Thread nD τ).loc main_arg2))

/-- Each window's block at each point of the grid. -/
theorem idx : ∀ t : Fin cfg0.N, win0_0.index t = ![t.val % 2, t.val / 16]
    ∧ win0_1.index t = ![t.val / 2 % 8 / 4, t.val % 2, t.val / 2 % 8 % 4]
    ∧ win0_2.index t = ![t.val / 2 % 8, t.val / 16, 0] :=
  (by decide +kernel : ∀ t : Fin grid0.N, _)

/-- The sum after point `n`: the carried one, with the last point's product added. -/
def acc (c : Dev nD) (n : ℕ) (h : n < cfg0.N) (y : S1024x1408.Idx) : EReal :=
  if n % 2 = 1 then
    (outsAt0 m c (n - 1) (Nat.lt_of_le_of_lt (Nat.sub_le _ _) h)).2 y + k0_pay1 (F := Ideal) (iblk m c 0 ⟨n, h⟩) (iblk m c 1 ⟨n, h⟩) y
  else (outsAt0 m c n h).2 y

theorem reset (c : Dev nD) (t : Fin cfg0.N) (h : t.val % 2 = 0) (y : S1024x1408.Idx) :
    acc m c t t.isLt y = 0 + k0_pay1 (F := Ideal) (iblk m c 0 t) (iblk m c 1 t) y := by
  have h2 : ¬ t.val % 2 = 1 := by omega
  rw [acc, if_neg h2, outsAt0_A m c t h h2, zero_add]
  frame_out
  pointwise [k0_pay2]

theorem step (c : Dev nD) (t : Fin cfg0.N) (h : ¬ t.val % 2 = 0) (y : S1024x1408.Idx) :
    acc m c t t.isLt y = acc m c (t.val - 1) (Nat.lt_of_le_of_lt (Nat.sub_le _ _) t.isLt) y
      + k0_pay1 (F := Ideal) (iblk m c 0 t) (iblk m c 1 t) y := by
  have h2 : t.val % 2 = 1 := by omega
  rw [acc, if_pos h2, acc, if_neg (by omega)]

/-- What the last point of a block's run stores: the whole sum. -/
theorem out (c : Dev nD) (t : Fin cfg0.N) (h : t.val % 2 = 1) (y : S1x1024x1408.Idx) :
    (outsAt0 m c t.val t.isLt).1 y = acc m c t t.isLt (ix2 (y 1) (y 2)) := by
  rw [acc, if_pos h, outsAt0_B m c t (by omega) h]
  frame_out
  pointwise [k0_pay4]
  rw [read_unread_whole]

/-- The whole sum against the reference's element at the block's place. -/
theorem core (c : Dev nD) (t : Fin cfg0.N) (ht : t.val % 2 = 1) (y : S1024x1408.Idx) (j : S8x2048x1408.Idx)
    (h0 : (j 0 : ℕ) = t.val / 2 % 8) (h1 : (j 1 : ℕ) = t.val / 16 * 1024 + y 0) (h2 : (j 2 : ℕ) = y 1) :
    acc m c t t.isLt y = REF m c j := by
  rw [Pipeline.eq_sum_fin_of_reset_step_apply_of_flush (acc m c) 2 (fun _ => 0) _ (reset m c) (step m c) t ht y, zero_add]
  pointwise [k0_pay1, REF, Cert.Reference4Ideal.UpDw.result]
  refine Fin.sum_mul_add_congr fun s k hl => ?_
  rw [mul_comm]
  blk_point [iblk, V, idx t, idx ⟨_, Pipeline.run_point_lt_of_flush t ht s⟩]

/-- The result array after the run is the reference's. -/
theorem final (c : Dev nD) : (dats m 0 c).arrAt 2 (cfgs 0).N = REF m c := by
  refine (dats m 0 c).arrAt_eq_of_covers 2 _ (by decide +kernel) fun t hf y => ?_
  have ht := (flush0_2 t).mp hf
  blk_simp
  rw [after0_2]
  refine (out m c t ht y).trans (core m c t ht _ _ ?_ ?_ ?_)
  all_goals blk_simp [idx t]

end Cert.Kernel4Ideal.UpDw

namespace Cert.UpDw

open Cert.Kernel4.Gen

/-! The kernel's run gives both of its frames; with the reference's run, it gives the equality of the results. -/

theorem bodies : Cert.Kernel4.defs₀ (F := Bits) = Cert.Kernel4Ideal.defs₀ (F := Bits) := by
  funext l p a
  cases l with
  | tc => match p, a with
    | ⟨0, _⟩, (t, s) => rfl
  | _ => rfl

theorem frame_kernel : Cert.quiescent_Kernel4 := fun m ρ _ => by
  rw [show Cert.Kernel4.defs (F := Bits) = Cert.Kernel4Ideal.defs (F := Bits) from congrArg (Pipeline.defs Cert.Kernel4.pcfgs) bodies]
  exact Cert.Kernel4Ideal.Gen.frame (F := Bits) m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  pair_intro
  · run_from Cert.Kernel4Ideal.Gen.run_main m g
  · run_from Cert.Reference4Ideal.Value.run m' g'
    exact (congrArg (Cert.Reference4Ideal.UpDw.result _) (hagree c).2.2).trans (Cert.Kernel4Ideal.UpDw.final m c).symm

end Cert.UpDw

end
-- ==== Proof.OutDx.lean ====
module

public import proofs.«01_k».proof.Defs
public import proofs.«01_k».proof.Proof.Gen.Kernel5Ideal.Value
public import proofs.«01_k».proof.Proof.Gen.Kernel5
public import proofs.«01_k».proof.Proof.Gen.Reference5Ideal.Run
public import Idealize.ShloMosaic.Lib.Pipeline.ValueKit
public import Idealize.ShloMosaic.Lib.Pipeline.ReadBack
public import Idealize.ShloMosaic.Lib.Pointwise

/-! The gradient of the output projection's input: each block is rows of `dx1` against rows of the weight. -/

@[expose] public section

set_option maxRecDepth 16384

noncomputable section

open Idealize.ShloMosaic Idealize.ShloMosaic.TcCoe Idealize.SL.Sem
open Idealize.ShloMosaic.Pipeline (Dat)

namespace Cert.Reference5Ideal.OutDx

open Cert.Reference5Ideal Cert.Reference5Ideal.Gen

/-- The reference's result as a function of its arguments. -/
def result (x1 : FVec Ideal S2048x2048 .bf16) (x2 : FVec Ideal S4096x2048 .bf16) : FVec Ideal Cert.Reference5Ideal.S4096x2048 .f32 :=
  Host.dotGeneral dot_S4096x2048_S2048x2048_S4096x2048_1_1_0_0_n_n none (extf .f32 x2 bitsLt_bf16_f32) (extf .f32 x1 bitsLt_bf16_f32)

end Cert.Reference5Ideal.OutDx

namespace Cert.Kernel5Ideal.OutDx

open Cert.Kernel5Ideal Cert.Kernel5Ideal.Gen

variable (m : (ℓ : Loc nD τ sig) → Buf (Elt Ideal) ℓ)

/-- The reference's result over the kernel's arguments. -/
abbrev REF (c : Dev nD) : FVec Ideal Cert.Reference5Ideal.S4096x2048 .f32 :=
  Cert.Reference5Ideal.OutDx.result (m ((c : Thread nD τ).loc main_arg1)) (m ((c : Thread nD τ).loc main_arg2))

/-- Each window's block at each point of the grid. -/
theorem idx : ∀ t : Fin cfg0.N, win0_0.index t = ![t.val / 2, 0]
    ∧ win0_1.index t = ![t.val % 2, 0]
    ∧ win0_2.index t = ![t.val / 2, t.val % 2] :=
  (by decide +kernel : ∀ t : Fin grid0.N, _)

/-- What the body stores at a place of point `t`'s block is the reference's element there. -/
theorem point (c : Dev nD) (t : Fin cfg0.N) (y) :
    k0_pay1 (iblk m c 0 t) (iblk m c 1 t) y = REF m c (((cfg0.win 2).blk t).view.emb y) := by
  pointwise [k0_pay1, REF, Cert.Reference5Ideal.OutDx.result]
  blk_point [iblk, V, idx t]

/-- The result array after the run is the reference's. -/
theorem final (c : Dev nD) : (dats m 0 c).arrAt 2 (cfgs 0).N = REF m c := by
  refine (dats m 0 c).arrAt_eq_of_covers 2 _ (by decide +kernel) fun t hf y => ?_
  blk_simp
  rw [after0_2]
  frame_out
  exact point m c t y

end Cert.Kernel5Ideal.OutDx

namespace Cert.OutDx

open Cert.Kernel5.Gen

/-! The kernel's run gives both of its frames; with the reference's run, it gives the equality of the results. -/

theorem bodies : Cert.Kernel5.defs₀ (F := Bits) = Cert.Kernel5Ideal.defs₀ (F := Bits) := by
  funext l p a
  cases l with
  | tc => match p, a with
    | ⟨0, _⟩, (t, s) => rfl
  | _ => rfl

theorem frame_kernel : Cert.quiescent_Kernel5 := fun m ρ _ => by
  rw [show Cert.Kernel5.defs (F := Bits) = Cert.Kernel5Ideal.defs (F := Bits) from congrArg (Pipeline.defs Cert.Kernel5.pcfgs) bodies]
  exact Cert.Kernel5Ideal.Gen.frame (F := Bits) m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic : Cert.algebraic_Kernel5Ideal_Reference5Ideal := by
  pair_intro
  · run_from Cert.Kernel5Ideal.Gen.run_main m g
  · run_from Cert.Reference5Ideal.Value.run m' g'
    exact (Cert.Kernel5Ideal.OutDx.final m c).symm

end Cert.OutDx

end
-- ==== Proof.OutDw.lean ====
module

public import proofs.«01_k».proof.Defs
public import proofs.«01_k».proof.Proof.Gen.Kernel6Ideal.Value
public import proofs.«01_k».proof.Proof.Gen.Kernel6
public import proofs.«01_k».proof.Proof.Gen.Reference6Ideal.Run
public import Idealize.ShloMosaic.Lib.Pipeline.ValueKit
public import Idealize.ShloMosaic.Lib.Pipeline.ReadBack
public import Idealize.ShloMosaic.Lib.Pointwise

/-! The gradient of the output projection's weight: each block is summed over two runs of tokens. -/

@[expose] public section

set_option maxRecDepth 16384

noncomputable section

open Idealize.ShloMosaic Idealize.ShloMosaic.TcCoe Idealize.SL.Sem
open Idealize.ShloMosaic.Pipeline (Dat)

namespace Cert.Reference6Ideal.OutDw

open Cert.Reference6Ideal Cert.Reference6Ideal.Gen

/-- The reference's result as a function of its arguments. -/
def result (x0 : FVec Ideal S4096x2048 .bf16) (x2 : FVec Ideal S4096x2048 .bf16) : FVec Ideal Cert.Reference6Ideal.S2048x2048 .bf16 :=
  truncf .bf16 (transpose S2048x2048 [1, 0] (Host.dotGeneral dot_S4096x2048_S4096x2048_S2048x2048_0_0_1_1_n_n none (extf .f32 x2 bitsLt_bf16_f32) (extf .f32 x0 bitsLt_bf16_f32)) transposes_S2048x2048_S2048x2048_1_0) bitsLt_bf16_f32

end Cert.Reference6Ideal.OutDw

namespace Cert.Kernel6Ideal.OutDw

open Cert.Kernel6Ideal Cert.Kernel6Ideal.Gen

variable (m : (ℓ : Loc nD τ sig) → Buf (Elt Ideal) ℓ)

/-- The reference's result over the kernel's arguments. -/
abbrev REF (c : Dev nD) : FVec Ideal Cert.Reference6Ideal.S2048x2048 .bf16 :=
  Cert.Reference6Ideal.OutDw.result (m ((c : Thread nD τ).loc main_arg0)) (m ((c : Thread nD τ).loc main_arg2))

/-- Each window's block at each point of the grid. -/
theorem idx : ∀ t : Fin cfg0.N, win0_0.index t = ![t.val % 2, t.val / 4]
    ∧ win0_1.index t = ![t.val % 2, t.val / 2 % 2]
    ∧ win0_2.index t = ![t.val / 4, t.val / 2 % 2] :=
  (by decide +kernel : ∀ t : Fin grid0.N, _)

/-- The sum after point `n`: the carried one, with the last point's product added. -/
def acc (c : Dev nD) (n : ℕ) (h : n < cfg0.N) (y : S1024x1024.Idx) : EReal :=
  if n % 2 = 1 then
    (outsAt0 m c (n - 1) (Nat.lt_of_le_of_lt (Nat.sub_le _ _) h)).2 y + k0_pay1 (F := Ideal) (iblk m c 0 ⟨n, h⟩) (iblk m c 1 ⟨n, h⟩) y
  else (outsAt0 m c n h).2 y

theorem reset (c : Dev nD) (t : Fin cfg0.N) (h : t.val % 2 = 0) (y : S1024x1024.Idx) :
    acc m c t t.isLt y = 0 + k0_pay1 (F := Ideal) (iblk m c 0 t) (iblk m c 1 t) y := by
  have h2 : ¬ t.val % 2 = 1 := by omega
  rw [acc, if_neg h2, outsAt0_A m c t h h2, zero_add]
  frame_out
  pointwise [k0_pay2]

theorem step (c : Dev nD) (t : Fin cfg0.N) (h : ¬ t.val % 2 = 0) (y : S1024x1024.Idx) :
    acc m c t t.isLt y = acc m c (t.val - 1) (Nat.lt_of_le_of_lt (Nat.sub_le _ _) t.isLt) y
      + k0_pay1 (F := Ideal) (iblk m c 0 t) (iblk m c 1 t) y := by
  have h2 : t.val % 2 = 1 := by omega
  rw [acc, if_pos h2, acc, if_neg (by omega)]

/-- What the last point of a block's run stores: the whole sum. -/
theorem out (c : Dev nD) (t : Fin cfg0.N) (h : t.val % 2 = 1) (y : S1024x1024.Idx) :
    (outsAt0 m c t.val t.isLt).1 y = acc m c t t.isLt y := by
  rw [acc, if_pos h, outsAt0_B m c t (by omega) h]
  frame_out
  pointwise [k0_pay4]
  rw [read_unread_whole]

/-- The result array after the run is the reference's. -/
theorem final (c : Dev nD) : (dats m 0 c).arrAt 2 (cfgs 0).N = REF m c := by
  refine (dats m 0 c).arrAt_eq_of_covers 2 _ (by decide +kernel) fun t hf y => ?_
  blk_simp
  have ht := (flush0_2 t).mp hf
  rw [after0_2]
  refine (out m c t ht y).trans ?_
  rw [Pipeline.eq_sum_fin_of_reset_step_apply_of_flush (acc m c) 2 (fun _ => 0) _ (reset m c) (step m c) t ht y, zero_add]
  pointwise [k0_pay1, REF, Cert.Reference6Ideal.OutDw.result]
  refine Fin.sum_mul_add_congr fun s k hl => ?_
  rw [mul_comm]
  blk_point [iblk, V, idx t, idx ⟨_, Pipeline.run_point_lt_of_flush t ht s⟩]

end Cert.Kernel6Ideal.OutDw

namespace Cert.OutDw

open Cert.Kernel6.Gen

/-! The kernel's run gives both of its frames; with the reference's run, it gives the equality of the results. -/

theorem bodies : Cert.Kernel6.defs₀ (F := Bits) = Cert.Kernel6Ideal.defs₀ (F := Bits) := by
  funext l p a
  cases l with
  | tc => match p, a with
    | ⟨0, _⟩, (t, s) => rfl
  | _ => rfl

theorem frame_kernel : Cert.quiescent_Kernel6 := fun m ρ _ => by
  rw [show Cert.Kernel6.defs (F := Bits) = Cert.Kernel6Ideal.defs (F := Bits) from congrArg (Pipeline.defs Cert.Kernel6.pcfgs) bodies]
  exact Cert.Kernel6Ideal.Gen.frame (F := Bits) m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := by
  pair_intro
  · run_from Cert.Kernel6Ideal.Gen.run_main m g
  · run_from Cert.Reference6Ideal.Value.run m' g'
    exact (Cert.Kernel6Ideal.OutDw.final m c).symm

end Cert.OutDw

end
-- ==== Proof.InDx.lean ====
module

public import proofs.«01_k».proof.Defs
public import proofs.«01_k».proof.Proof.Gen.Kernel7Ideal.Value
public import proofs.«01_k».proof.Proof.Gen.Kernel7
public import proofs.«01_k».proof.Proof.Gen.Reference7Ideal.Run
public import Idealize.ShloMosaic.Lib.Pipeline.ValueKit
public import Idealize.ShloMosaic.Lib.Pipeline.ReadBack
public import Idealize.ShloMosaic.Lib.Pointwise

/-! The gradient of the input projection's input: each block is summed over two runs of columns, and the residual is added. -/

@[expose] public section

set_option maxRecDepth 16384

noncomputable section

open Idealize.ShloMosaic Idealize.ShloMosaic.TcCoe Idealize.SL.Sem
open Idealize.ShloMosaic.Pipeline (Dat)

namespace Cert.Reference7Ideal.InDx

open Cert.Reference7Ideal Cert.Reference7Ideal.Gen

/-- The reference's result as a function of its arguments. -/
def result (x1 : FVec Ideal S5136x2048 .bf16) (x2 : FVec Ideal S4096x5120 .bf16) (x3 : FVec Ideal S4096x2048 .f32) : FVec Ideal Cert.Reference7Ideal.S4096x2048 .f32 :=
  addf x3 (Host.dotGeneral dot_S4096x5120_S2048x5120_S4096x2048_1_1_0_0_n_n none (extf .f32 x2 bitsLt_bf16_f32) (extf .f32 (transpose S2048x5120 [1, 0] (extractStridedSlice S5120x2048 ![0, 0] x1 slices_S5136x2048_S5120x2048_0_0) transposes_S5120x2048_S2048x5120_1_0) bitsLt_bf16_f32))

end Cert.Reference7Ideal.InDx

namespace Cert.Kernel7Ideal.InDx

open Cert.Kernel7Ideal Cert.Kernel7Ideal.Gen

variable (m : (ℓ : Loc nD τ sig) → Buf (Elt Ideal) ℓ)

/-- The reference's result over the kernel's arguments. -/
abbrev REF (c : Dev nD) : FVec Ideal Cert.Reference7Ideal.S4096x2048 .f32 :=
  Cert.Reference7Ideal.InDx.result (m ((c : Thread nD τ).loc main_arg1)) (m ((c : Thread nD τ).loc main_arg2)) (m ((c : Thread nD τ).loc main_arg3))

/-- Each window's block at each point of the grid. -/
theorem idx : ∀ t : Fin cfg0.N, win0_0.index t = ![t.val / 4, t.val % 2]
    ∧ win0_1.index t = ![t.val % 2, t.val / 2 % 2]
    ∧ win0_2.index t = ![t.val / 4, t.val / 2 % 2]
    ∧ win0_3.index t = ![t.val / 4, t.val / 2 % 2] :=
  (by decide +kernel : ∀ t : Fin grid0.N, _)

/-- The weight's block at point `t`, which lies inside the array. -/
theorem weight (c : Dev nD) (t : Fin cfg0.N) (k : Fin 2560) (l : Fin 1024) (i : S5136x2048.Idx)
    (h0 : (i 0 : ℕ) = t.val % 2 * 2560 + k) (h1 : (i 1 : ℕ) = t.val / 2 % 2 * 1024 + l) :
    X0_1 m c t (ix2 k l) = m ((c : Thread nD τ).loc main_arg1) i := by
  unfold X0_1 Pipeline.Window.fill
  rw [dif_pos (moved0_1 t _)]
  blk_point [iblk, V, idx t]

/-- The sum after point `n`: the carried one, with the last point's product added. -/
def acc (c : Dev nD) (n : ℕ) (h : n < cfg0.N) (y : S1024x1024.Idx) : EReal :=
  if n % 2 = 1 then
    (outsAt0 m c (n - 1) (Nat.lt_of_le_of_lt (Nat.sub_le _ _) h)).2 y + k0_pay1 (F := Ideal) (iblk m c 0 ⟨n, h⟩) (X0_1 m c ⟨n, h⟩) y
  else (outsAt0 m c n h).2 y

theorem reset (c : Dev nD) (t : Fin cfg0.N) (h : t.val % 2 = 0) (y : S1024x1024.Idx) :
    acc m c t t.isLt y = 0 + k0_pay1 (F := Ideal) (iblk m c 0 t) (X0_1 m c t) y := by
  have h2 : ¬ t.val % 2 = 1 := by omega
  rw [acc, if_neg h2, outsAt0_A m c t h h2, zero_add]
  frame_out
  pointwise [k0_pay2]

theorem step (c : Dev nD) (t : Fin cfg0.N) (h : ¬ t.val % 2 = 0) (y : S1024x1024.Idx) :
    acc m c t t.isLt y = acc m c (t.val - 1) (Nat.lt_of_le_of_lt (Nat.sub_le _ _) t.isLt) y
      + k0_pay1 (F := Ideal) (iblk m c 0 t) (X0_1 m c t) y := by
  have h2 : t.val % 2 = 1 := by omega
  rw [acc, if_pos h2, acc, if_neg (by omega)]

/-- What the last point of a block's run stores: the whole sum and the residual. -/
theorem out (c : Dev nD) (t : Fin cfg0.N) (h : t.val % 2 = 1) (y : S1024x1024.Idx) :
    (outsAt0 m c t.val t.isLt).1 y = acc m c t t.isLt y + iblk m c 2 t y := by
  rw [acc, if_pos h, outsAt0_B m c t (by omega) h]
  frame_out
  pointwise [k0_pay4]
  rw [read_unread_whole]

/-- The result array after the run is the reference's. -/
theorem final (c : Dev nD) : (dats m 0 c).arrAt 3 (cfgs 0).N = REF m c := by
  refine (dats m 0 c).arrAt_eq_of_covers 3 _ (by decide +kernel) fun t hf y => ?_
  blk_simp
  have ht := (flush0_3 t).mp hf
  rw [after0_3]
  refine (out m c t ht y).trans ?_
  rw [Pipeline.eq_sum_fin_of_reset_step_apply_of_flush (acc m c) 2 (fun _ => 0) _ (reset m c) (step m c) t ht y, zero_add]
  pointwise [k0_pay1, REF, Cert.Reference7Ideal.InDx.result]
  rw [add_comm]
  congr 1
  refine Fin.sum_mul_add_congr fun s k hl => ?_
  have hu := idx ⟨_, Pipeline.run_point_lt_of_flush t ht s⟩
  refine congrArg₂ (· * ·) ?_ (weight m c _ _ _ _ ?_ ?_)
  · blk_point [iblk, V, idx t, hu]
  all_goals
    have hs := s.isLt
    blk_simp [idx t]
    try dsimp only
    try omega

end Cert.Kernel7Ideal.InDx

namespace Cert.InDx

open Cert.Kernel7.Gen

/-! The kernel's run gives both of its frames; with the reference's run, it gives the equality of the results. -/

theorem bodies : Cert.Kernel7.defs₀ (F := Bits) = Cert.Kernel7Ideal.defs₀ (F := Bits) := by
  funext l p a
  cases l with
  | tc => match p, a with
    | ⟨0, _⟩, (t, s) => rfl
  | _ => rfl

theorem frame_kernel : Cert.quiescent_Kernel7 := fun m ρ _ => by
  rw [show Cert.Kernel7.defs (F := Bits) = Cert.Kernel7Ideal.defs (F := Bits) from congrArg (Pipeline.defs Cert.Kernel7.pcfgs) bodies]
  exact Cert.Kernel7Ideal.Gen.frame (F := Bits) m ρ

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal := by
  pair_intro
  · run_from Cert.Kernel7Ideal.Gen.run_main m g
  · run_from Cert.Reference7Ideal.Value.run m' g'
    exact (Cert.Kernel7Ideal.InDx.final m c).symm

end Cert.InDx

end
-- ==== Proof.InDw.lean ====
module

public import proofs.«01_k».proof.Defs
public import proofs.«01_k».proof.Proof.Gen.Kernel8Ideal.Value
public import proofs.«01_k».proof.Proof.Gen.Kernel8
public import proofs.«01_k».proof.Proof.Gen.Reference8Ideal.Run
public import Idealize.ShloMosaic.Lib.Pipeline.ValueKit
public import Idealize.ShloMosaic.Lib.Pipeline.ReadBack
public import Idealize.ShloMosaic.Lib.Pointwise

/-! The gradient of the input projection's weight: each block is summed over two runs of tokens. -/

@[expose] public section

set_option maxRecDepth 16384

noncomputable section

open Idealize.ShloMosaic Idealize.ShloMosaic.TcCoe Idealize.SL.Sem
open Idealize.ShloMosaic.Pipeline (Dat)

namespace Cert.Reference8Ideal.InDw

open Cert.Reference8Ideal Cert.Reference8Ideal.Gen

/-- The reference's result as a function of its arguments. -/
def result (x0 : FVec Ideal S4096x2048 .bf16) (x2 : FVec Ideal S4096x5120 .bf16) : FVec Ideal Cert.Reference8Ideal.S5120x2048 .bf16 :=
  truncf .bf16 (transpose S5120x2048 [1, 0] (transpose S2048x5120 [1, 0] (Host.dotGeneral dot_S4096x5120_S4096x2048_S5120x2048_0_0_1_1_n_n none (extf .f32 x2 bitsLt_bf16_f32) (extf .f32 x0 bitsLt_bf16_f32)) transposes_S5120x2048_S2048x5120_1_0) transposes_S2048x5120_S5120x2048_1_0) bitsLt_bf16_f32

end Cert.Reference8Ideal.InDw

namespace Cert.Kernel8Ideal.InDw

open Cert.Kernel8Ideal Cert.Kernel8Ideal.Gen

variable (m : (ℓ : Loc nD τ sig) → Buf (Elt Ideal) ℓ)

/-- The reference's result over the kernel's arguments. -/
abbrev REF (c : Dev nD) : FVec Ideal Cert.Reference8Ideal.S5120x2048 .bf16 :=
  Cert.Reference8Ideal.InDw.result (m ((c : Thread nD τ).loc main_arg0)) (m ((c : Thread nD τ).loc main_arg2))

/-- Each window's block at each point of the grid. -/
theorem idx : ∀ t : Fin cfg0.N, win0_0.index t = ![t.val % 2, t.val / 4]
    ∧ win0_1.index t = ![t.val % 2, t.val / 2 % 2]
    ∧ win0_2.index t = ![t.val / 4, t.val / 2 % 2] :=
  (by decide +kernel : ∀ t : Fin grid0.N, _)

/-- The sum after point `n`: the carried one, with the last point's product added. -/
def acc (c : Dev nD) (n : ℕ) (h : n < cfg0.N) (y : S1024x1024.Idx) : EReal :=
  if n % 2 = 1 then
    (outsAt0 m c (n - 1) (Nat.lt_of_le_of_lt (Nat.sub_le _ _) h)).2 y + k0_pay1 (F := Ideal) (iblk m c 0 ⟨n, h⟩) (iblk m c 1 ⟨n, h⟩) y
  else (outsAt0 m c n h).2 y

theorem reset (c : Dev nD) (t : Fin cfg0.N) (h : t.val % 2 = 0) (y : S1024x1024.Idx) :
    acc m c t t.isLt y = 0 + k0_pay1 (F := Ideal) (iblk m c 0 t) (iblk m c 1 t) y := by
  have h2 : ¬ t.val % 2 = 1 := by omega
  rw [acc, if_neg h2, outsAt0_A m c t h h2, zero_add]
  frame_out
  pointwise [k0_pay2]

theorem step (c : Dev nD) (t : Fin cfg0.N) (h : ¬ t.val % 2 = 0) (y : S1024x1024.Idx) :
    acc m c t t.isLt y = acc m c (t.val - 1) (Nat.lt_of_le_of_lt (Nat.sub_le _ _) t.isLt) y
      + k0_pay1 (F := Ideal) (iblk m c 0 t) (iblk m c 1 t) y := by
  have h2 : t.val % 2 = 1 := by omega
  rw [acc, if_pos h2, acc, if_neg (by omega)]

/-- What the last point of a block's run stores: the whole sum. -/
theorem out (c : Dev nD) (t : Fin cfg0.N) (h : t.val % 2 = 1) (y : S1024x1024.Idx) :
    (outsAt0 m c t.val t.isLt).1 y = acc m c t t.isLt y := by
  rw [acc, if_pos h, outsAt0_B m c t (by omega) h]
  frame_out
  pointwise [k0_pay4]
  rw [read_unread_whole]

/-- The result array after the run is the reference's. -/
theorem final (c : Dev nD) : (dats m 0 c).arrAt 2 (cfgs 0).N = REF m c := by
  refine (dats m 0 c).arrAt_eq_of_covers 2 _ (by decide +kernel) fun t hf y => ?_
  blk_simp
  have ht := (flush0_2 t).mp hf
  rw [after0_2]
  refine (out m c t ht y).trans ?_
  rw [Pipeline.eq_sum_fin_of_reset_step_apply_of_flush (acc m c) 2 (fun _ => 0) _ (reset m c) (step m c) t ht y, zero_add]
  pointwise [k0_pay1, REF, Cert.Reference8Ideal.InDw.result]
  refine Fin.sum_mul_add_congr fun s k hl => ?_
  blk_point [iblk, V, idx t, idx ⟨_, Pipeline.run_point_lt_of_flush t ht s⟩]

end Cert.Kernel8Ideal.InDw

namespace Cert.InDw

open Cert.Kernel8.Gen

/-! The kernel's run gives both of its frames; with the reference's run, it gives the equality of the results. -/

theorem bodies : Cert.Kernel8.defs₀ (F := Bits) = Cert.Kernel8Ideal.defs₀ (F := Bits) := by
  funext l p a
  cases l with
  | tc => match p, a with
    | ⟨0, _⟩, (t, s) => rfl
  | _ => rfl

theorem frame_kernel : Cert.quiescent_Kernel8 := fun m ρ _ => by
  rw [show Cert.Kernel8.defs (F := Bits) = Cert.Kernel8Ideal.defs (F := Bits) from congrArg (Pipeline.defs Cert.Kernel8.pcfgs) bodies]
  exact Cert.Kernel8Ideal.Gen.frame (F := Bits) m ρ

theorem frame_ideal : Cert.quiescent_Kernel8Ideal := fun m ρ _ => Cert.Kernel8Ideal.Gen.frame m ρ

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : Cert.algebraic_Kernel8Ideal_Reference8Ideal := by
  pair_intro
  · run_from Cert.Kernel8Ideal.Gen.run_main m g
  · run_from Cert.Reference8Ideal.Value.run m' g'
    exact (Cert.Kernel8Ideal.InDw.final m c).symm

end Cert.InDw

end
-- ==== Proof.PwDx.lean ====
module

public import proofs.«01_k».proof.Defs
public import proofs.«01_k».proof.Proof.Gen.Kernel9Ideal.Value
public import proofs.«01_k».proof.Proof.Gen.Kernel9
public import proofs.«01_k».proof.Proof.Gen.Reference9Ideal.Run
public import Idealize.ShloMosaic.Lib.Pipeline.ValueKit
public import Idealize.ShloMosaic.Lib.Pipeline.ReadBack
public import Idealize.ShloMosaic.Lib.Pointwise

/-! The gradient of the pointwise convolution's input: each block is rows of the gradient against the weight's rows. -/

@[expose] public section

set_option maxRecDepth 16384

noncomputable section

open Idealize.ShloMosaic Idealize.ShloMosaic.TcCoe Idealize.SL.Sem
open Idealize.ShloMosaic.Pipeline (Dat)

namespace Cert.Reference9Ideal.PwDx

open Cert.Reference9Ideal Cert.Reference9Ideal.Gen

/-- The reference's result as a function of its arguments. -/
def result (x1 : FVec Ideal S1024x1024 .bf16) (x2 : FVec Ideal S4096x1024 .bf16) : FVec Ideal Cert.Reference9Ideal.S4096x1024 .f32 :=
  Host.dotGeneral dot_S4096x1024_S1024x1024_S4096x1024_1_1_0_0_n_n none (extf .f32 x2 bitsLt_bf16_f32) (extf .f32 x1 bitsLt_bf16_f32)

end Cert.Reference9Ideal.PwDx

namespace Cert.Kernel9Ideal.PwDx

open Cert.Kernel9Ideal Cert.Kernel9Ideal.Gen

variable (m : (ℓ : Loc nD τ sig) → Buf (Elt Ideal) ℓ)

/-- The reference's result over the kernel's arguments. -/
abbrev REF (c : Dev nD) : FVec Ideal Cert.Reference9Ideal.S4096x1024 .f32 :=
  Cert.Reference9Ideal.PwDx.result (m ((c : Thread nD τ).loc main_arg1)) (m ((c : Thread nD τ).loc main_arg2))

/-- Each window's block at each point of the grid. -/
theorem idx : ∀ t : Fin cfg0.N, win0_0.index t = ![t.val, 0]
    ∧ win0_1.index t = ![0, 0]
    ∧ win0_2.index t = ![t.val, 0] :=
  (by decide +kernel : ∀ t : Fin grid0.N, _)

/-- What the body stores at a place of point `t`'s block is the reference's element there. -/
theorem point (c : Dev nD) (t : Fin cfg0.N) (y) :
    k0_pay1 (iblk m c 0 t) (iblk m c 1 t) y = REF m c (((cfg0.win 2).blk t).view.emb y) := by
  pointwise [k0_pay1, REF, Cert.Reference9Ideal.PwDx.result]
  blk_point [iblk, V, idx t]

/-- The result array after the run is the reference's. -/
theorem final (c : Dev nD) : (dats m 0 c).arrAt 2 (cfgs 0).N = REF m c := by
  refine (dats m 0 c).arrAt_eq_of_covers 2 _ (by decide +kernel) fun t hf y => ?_
  blk_simp
  rw [after0_2]
  frame_out
  exact point m c t y

end Cert.Kernel9Ideal.PwDx

namespace Cert.PwDx

open Cert.Kernel9.Gen

/-! The kernel's run gives both of its frames; with the reference's run, it gives the equality of the results. -/

theorem bodies : Cert.Kernel9.defs₀ (F := Bits) = Cert.Kernel9Ideal.defs₀ (F := Bits) := by
  funext l p a
  cases l with
  | tc => match p, a with
    | ⟨0, _⟩, (t, s) => rfl
  | _ => rfl

theorem frame_kernel : Cert.quiescent_Kernel9 := fun m ρ _ => by
  rw [show Cert.Kernel9.defs (F := Bits) = Cert.Kernel9Ideal.defs (F := Bits) from congrArg (Pipeline.defs Cert.Kernel9.pcfgs) bodies]
  exact Cert.Kernel9Ideal.Gen.frame (F := Bits) m ρ

theorem frame_ideal : Cert.quiescent_Kernel9Ideal := fun m ρ _ => Cert.Kernel9Ideal.Gen.frame m ρ

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic : Cert.algebraic_Kernel9Ideal_Reference9Ideal := by
  pair_intro
  · run_from Cert.Kernel9Ideal.Gen.run_main m g
  · run_from Cert.Reference9Ideal.Value.run m' g'
    exact (Cert.Kernel9Ideal.PwDx.final m c).symm

end Cert.PwDx

end
-- ==== Proof.PwDw.lean ====
module

public import proofs.«01_k».proof.Defs
public import proofs.«01_k».proof.Proof.Gen.Kernel10Ideal.Value
public import proofs.«01_k».proof.Proof.Gen.Kernel10
public import proofs.«01_k».proof.Proof.Gen.Reference10Ideal.Run
public import Idealize.ShloMosaic.Lib.Pipeline.ValueKit
public import Idealize.ShloMosaic.Lib.Pipeline.ReadBack
public import Idealize.ShloMosaic.Lib.Pointwise

/-! The gradient of the pointwise convolution's weight, summed over two runs of tokens. -/

@[expose] public section

set_option maxRecDepth 16384

noncomputable section

open Idealize.ShloMosaic Idealize.ShloMosaic.TcCoe Idealize.SL.Sem
open Idealize.ShloMosaic.Pipeline (Dat)

namespace Cert.Reference10Ideal.PwDw

open Cert.Reference10Ideal Cert.Reference10Ideal.Gen

/-- The reference's result as a function of its arguments. -/
def result (x0 : FVec Ideal S4096x1024 .bf16) (x2 : FVec Ideal S4096x1024 .bf16) : FVec Ideal Cert.Reference10Ideal.S1024x1024 .bf16 :=
  truncf .bf16 (transpose S1024x1024 [1, 0] (Host.dotGeneral dot_S4096x1024_S4096x1024_S1024x1024_0_0_1_1_n_n none (extf .f32 x2 bitsLt_bf16_f32) (extf .f32 x0 bitsLt_bf16_f32)) transposes_S1024x1024_S1024x1024_1_0) bitsLt_bf16_f32

end Cert.Reference10Ideal.PwDw

namespace Cert.Kernel10Ideal.PwDw

open Cert.Kernel10Ideal Cert.Kernel10Ideal.Gen

variable (m : (ℓ : Loc nD τ sig) → Buf (Elt Ideal) ℓ)

/-- The reference's result over the kernel's arguments. -/
abbrev REF (c : Dev nD) : FVec Ideal Cert.Reference10Ideal.S1024x1024 .bf16 :=
  Cert.Reference10Ideal.PwDw.result (m ((c : Thread nD τ).loc main_arg0)) (m ((c : Thread nD τ).loc main_arg2))

/-- Each window's block at each point of the grid. -/
theorem idx : ∀ t : Fin cfg0.N, win0_0.index t = ![t.val, 0]
    ∧ win0_1.index t = ![t.val, 0]
    ∧ win0_2.index t = ![0, 0] :=
  (by decide +kernel : ∀ t : Fin grid0.N, _)

/-- The sum after point `n`: the carried one, with the last point's product added. -/
def acc (c : Dev nD) (n : ℕ) (h : n < cfg0.N) (y : S1024x1024.Idx) : EReal :=
  if n % 2 = 1 then
    (outsAt0 m c (n - 1) (Nat.lt_of_le_of_lt (Nat.sub_le _ _) h)).2 y + k0_pay1 (F := Ideal) (iblk m c 0 ⟨n, h⟩) (iblk m c 1 ⟨n, h⟩) y
  else (outsAt0 m c n h).2 y

theorem reset (c : Dev nD) (t : Fin cfg0.N) (h : t.val % 2 = 0) (y : S1024x1024.Idx) :
    acc m c t t.isLt y = 0 + k0_pay1 (F := Ideal) (iblk m c 0 t) (iblk m c 1 t) y := by
  have h2 : ¬ t.val % 2 = 1 := by omega
  rw [acc, if_neg h2, outsAt0_A m c t h h2, zero_add]
  frame_out
  pointwise [k0_pay2]

theorem step (c : Dev nD) (t : Fin cfg0.N) (h : ¬ t.val % 2 = 0) (y : S1024x1024.Idx) :
    acc m c t t.isLt y = acc m c (t.val - 1) (Nat.lt_of_le_of_lt (Nat.sub_le _ _) t.isLt) y
      + k0_pay1 (F := Ideal) (iblk m c 0 t) (iblk m c 1 t) y := by
  have h2 : t.val % 2 = 1 := by omega
  rw [acc, if_pos h2, acc, if_neg (by omega)]

/-- What the last point of a block's run stores: the whole sum. -/
theorem out (c : Dev nD) (t : Fin cfg0.N) (h : t.val % 2 = 1) (y : S1024x1024.Idx) :
    (outsAt0 m c t.val t.isLt).1 y = acc m c t t.isLt y := by
  rw [acc, if_pos h, outsAt0_B m c t (by omega) h]
  frame_out
  pointwise [k0_pay4]
  rw [read_unread_whole]

/-- The result array after the run is the reference's. -/
theorem final (c : Dev nD) : (dats m 0 c).arrAt 2 (cfgs 0).N = REF m c := by
  refine (dats m 0 c).arrAt_eq_of_covers 2 _ (by decide +kernel) fun t hf y => ?_
  blk_simp
  have ht := (flush0_2 t).mp hf
  rw [after0_2]
  refine (out m c t ht y).trans ?_
  rw [Pipeline.eq_sum_fin_of_reset_step_apply_of_flush (acc m c) 2 (fun _ => 0) _ (reset m c) (step m c) t ht y, zero_add]
  pointwise [k0_pay1, REF, Cert.Reference10Ideal.PwDw.result]
  refine Fin.sum_mul_add_congr fun s k hl => ?_
  rw [mul_comm]
  blk_point [iblk, V, idx t, idx ⟨_, Pipeline.run_point_lt_of_flush t ht s⟩]

end Cert.Kernel10Ideal.PwDw

namespace Cert.PwDw

open Cert.Kernel10.Gen

/-! The kernel's run gives both of its frames; with the reference's run, it gives the equality of the results. -/

theorem bodies : Cert.Kernel10.defs₀ (F := Bits) = Cert.Kernel10Ideal.defs₀ (F := Bits) := by
  funext l p a
  cases l with
  | tc => match p, a with
    | ⟨0, _⟩, (t, s) => rfl
  | _ => rfl

theorem frame_kernel : Cert.quiescent_Kernel10 := fun m ρ _ => by
  rw [show Cert.Kernel10.defs (F := Bits) = Cert.Kernel10Ideal.defs (F := Bits) from congrArg (Pipeline.defs Cert.Kernel10.pcfgs) bodies]
  exact Cert.Kernel10Ideal.Gen.frame (F := Bits) m ρ

theorem frame_ideal : Cert.quiescent_Kernel10Ideal := fun m ρ _ => Cert.Kernel10Ideal.Gen.frame m ρ

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic : Cert.algebraic_Kernel10Ideal_Reference10Ideal := by
  pair_intro
  · run_from Cert.Kernel10Ideal.Gen.run_main m g
  · run_from Cert.Reference10Ideal.Value.run m' g'
    exact (Cert.Kernel10Ideal.PwDw.final m c).symm

end Cert.PwDw

end
-- ==== Proof.Up.lean ====
module

public import proofs.«01_k».proof.Defs
public import proofs.«01_k».proof.Proof.Gen.Kernel11Ideal.Value
public import proofs.«01_k».proof.Proof.Gen.Kernel11
public import proofs.«01_k».proof.Proof.Gen.Reference11Ideal.Run
public import Idealize.ShloMosaic.Lib.Pipeline.ValueKit
public import Idealize.ShloMosaic.Lib.Pipeline.ReadBack
public import Idealize.ShloMosaic.Lib.Pointwise

/-! The gate and up projections: each block is rows of the input against one device's block of the weight's columns. -/

@[expose] public section

set_option maxRecDepth 16384

noncomputable section

open Idealize.ShloMosaic Idealize.ShloMosaic.TcCoe Idealize.SL.Sem
open Idealize.ShloMosaic.Pipeline (Dat)

namespace Cert.Reference11Ideal.Up

open Cert.Reference11Ideal Cert.Reference11Ideal.Gen

/-- The reference's result as a function of its arguments. -/
def result (x0 : FVec Ideal S4096x2048 .bf16) (x1 : FVec Ideal S8x2048x1408 .bf16) : FVec Ideal Cert.Reference11Ideal.S2x4096x5632 .f32 :=
  concatenate S2x4096x5632 0 [⟨S1x4096x5632, (broadcastInDim S1x4096x5632 ![1, 2] bcast_S4096x5632_S1x4096x5632_1_2 (extractStridedSlice S4096x5632 ![0, 0] (Host.dotGeneral dot_S4096x2048_S2048x11264_S4096x11264_1_0_0_1_n_n none (extf .f32 x0 bitsLt_bf16_f32) (extf .f32 (shapeCast _ (transpose S2048x8x1408 [1, 0, 2] x1 transposes_S8x2048x1408_S2048x8x1408_1_0_2) shapeCasts_S2048x8x1408_S2048x11264) bitsLt_bf16_f32)) slices_S4096x11264_S4096x5632_0_0))⟩, ⟨S1x4096x5632, (broadcastInDim S1x4096x5632 ![1, 2] bcast_S4096x5632_S1x4096x5632_1_2 (extractStridedSlice S4096x5632 ![0, 5632] (Host.dotGeneral dot_S4096x2048_S2048x11264_S4096x11264_1_0_0_1_n_n none (extf .f32 x0 bitsLt_bf16_f32) (extf .f32 (shapeCast _ (transpose S2048x8x1408 [1, 0, 2] x1 transposes_S8x2048x1408_S2048x8x1408_1_0_2) shapeCasts_S2048x8x1408_S2048x11264) bitsLt_bf16_f32)) slices_S4096x11264_S4096x5632_0_5632))⟩] concatenates_S1x4096x5632_S1x4096x5632_S2x4096x5632_d0

end Cert.Reference11Ideal.Up

namespace Cert.Kernel11Ideal.Up

open Cert.Kernel11Ideal Cert.Kernel11Ideal.Gen

variable (m : (ℓ : Loc nD τ sig) → Buf (Elt Ideal) ℓ)

/-- The reference's result over the kernel's arguments. -/
abbrev REF (c : Dev nD) : FVec Ideal Cert.Reference11Ideal.S2x4096x5632 .f32 :=
  Cert.Reference11Ideal.Up.result (m ((c : Thread nD τ).loc main_arg0)) (m ((c : Thread nD τ).loc main_arg1))

/-- Each window's block at each point of the grid. -/
theorem idx : ∀ t : Fin cfg0.N, win0_0.index t = ![t.val / 8, 0]
    ∧ win0_1.index t = ![t.val % 8, 0, 0]
    ∧ win0_2.index t = ![t.val % 8 / 4, t.val / 8, t.val % 8 % 4] :=
  (by decide +kernel : ∀ t : Fin grid0.N, _)

/-- What the body stores at a place of point `t`'s block, against the reference's element at the block's place. -/
theorem core (c : Dev nD) (t : Fin cfg0.N) (y : S1x1024x1408.Idx) (j : S2x4096x5632.Idx) (h0 : (j 0 : ℕ) = t.val % 8 / 4)
    (h1 : (j 1 : ℕ) = t.val / 8 * 1024 + y 1) (h2 : (j 2 : ℕ) = t.val % 8 % 4 * 1408 + y 2) :
    k0_pay1 (iblk m c 0 t) (iblk m c 1 t) y = REF m c j := by
  pointwise [k0_pay1, REF, Cert.Reference11Ideal.Up.result]
  blk_point [iblk, V, idx t]

theorem point (c : Dev nD) (t : Fin cfg0.N) (y) :
    k0_pay1 (iblk m c 0 t) (iblk m c 1 t) y = REF m c (((cfg0.win 2).blk t).view.emb y) := by
  refine core m c t y _ ?_ ?_ ?_
  all_goals blk_simp [idx t]

/-- The result array after the run is the reference's. -/
theorem final (c : Dev nD) : (dats m 0 c).arrAt 2 (cfgs 0).N = REF m c := by
  refine (dats m 0 c).arrAt_eq_of_covers 2 _ (by decide +kernel) fun t hf y => ?_
  blk_simp
  rw [after0_2]
  frame_out
  exact point m c t y

end Cert.Kernel11Ideal.Up

namespace Cert.Up

open Cert.Kernel11.Gen

/-! The kernel's run gives both of its frames; with the reference's run, it gives the equality of the results. -/

theorem bodies : Cert.Kernel11.defs₀ (F := Bits) = Cert.Kernel11Ideal.defs₀ (F := Bits) := by
  funext l p a
  cases l with
  | tc => match p, a with
    | ⟨0, _⟩, (t, s) => rfl
  | _ => rfl

theorem frame_kernel : Cert.quiescent_Kernel11 := fun m ρ _ => by
  rw [show Cert.Kernel11.defs (F := Bits) = Cert.Kernel11Ideal.defs (F := Bits) from congrArg (Pipeline.defs Cert.Kernel11.pcfgs) bodies]
  exact Cert.Kernel11Ideal.Gen.frame (F := Bits) m ρ

theorem frame_ideal : Cert.quiescent_Kernel11Ideal := fun m ρ _ => Cert.Kernel11Ideal.Gen.frame m ρ

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic : Cert.algebraic_Kernel11Ideal_Reference11Ideal := by
  pair_intro
  · run_from Cert.Kernel11Ideal.Gen.run_main m g
  · run_from Cert.Reference11Ideal.Value.run m' g'
    exact (Cert.Kernel11Ideal.Up.final m c).symm

end Cert.Up

end
-- ==== Proof.Down.lean ====
module

public import proofs.«01_k».proof.Defs
public import proofs.«01_k».proof.Proof.Gen.Kernel12Ideal.Value
public import proofs.«01_k».proof.Proof.Gen.Kernel12
public import proofs.«01_k».proof.Proof.Gen.Reference12Ideal.Run
public import Idealize.ShloMosaic.Lib.Pipeline.ValueKit
public import Idealize.ShloMosaic.Lib.Pipeline.ReadBack
public import Idealize.ShloMosaic.Lib.Pointwise

/-! The down projection: each block is summed over two runs of columns, and the residual is added. -/

@[expose] public section

set_option maxRecDepth 16384

noncomputable section

open Idealize.ShloMosaic Idealize.ShloMosaic.TcCoe Idealize.SL.Sem
open Idealize.ShloMosaic.Pipeline (Dat)

namespace Cert.Reference12Ideal.Down

open Cert.Reference12Ideal Cert.Reference12Ideal.Gen

/-- The reference's result as a function of its arguments. -/
def result (x0 : FVec Ideal S4096x5632 .bf16) (x1 : FVec Ideal S5632x2048 .bf16) (x2 : FVec Ideal S4096x2048 .f32) : FVec Ideal Cert.Reference12Ideal.S4096x2048 .f32 :=
  addf x2 (Host.dotGeneral dot_S4096x5632_S5632x2048_S4096x2048_1_0_0_1_n_n none (extf .f32 x0 bitsLt_bf16_f32) (extf .f32 x1 bitsLt_bf16_f32))

end Cert.Reference12Ideal.Down

namespace Cert.Kernel12Ideal.Down

open Cert.Kernel12Ideal Cert.Kernel12Ideal.Gen

variable (m : (ℓ : Loc nD τ sig) → Buf (Elt Ideal) ℓ)

/-- The reference's result over the kernel's arguments. -/
abbrev REF (c : Dev nD) : FVec Ideal Cert.Reference12Ideal.S4096x2048 .f32 :=
  Cert.Reference12Ideal.Down.result (m ((c : Thread nD τ).loc main_arg0)) (m ((c : Thread nD τ).loc main_arg1)) (m ((c : Thread nD τ).loc main_arg2))

/-- Each window's block at each point of the grid. -/
theorem idx : ∀ t : Fin cfg0.N, win0_0.index t = ![t.val / 4, t.val % 2]
    ∧ win0_1.index t = ![t.val % 2, t.val / 2 % 2]
    ∧ win0_2.index t = ![t.val / 4, t.val / 2 % 2]
    ∧ win0_3.index t = ![t.val / 4, t.val / 2 % 2] :=
  (by decide +kernel : ∀ t : Fin grid0.N, _)

/-- The sum after point `n`: the carried one, with the last point's product added. -/
def acc (c : Dev nD) (n : ℕ) (h : n < cfg0.N) (y : S1024x1024.Idx) : EReal :=
  if n % 2 = 1 then
    (outsAt0 m c (n - 1) (Nat.lt_of_le_of_lt (Nat.sub_le _ _) h)).2 y + k0_pay1 (F := Ideal) (iblk m c 0 ⟨n, h⟩) (iblk m c 1 ⟨n, h⟩) y
  else (outsAt0 m c n h).2 y

theorem reset (c : Dev nD) (t : Fin cfg0.N) (h : t.val % 2 = 0) (y : S1024x1024.Idx) :
    acc m c t t.isLt y = 0 + k0_pay1 (F := Ideal) (iblk m c 0 t) (iblk m c 1 t) y := by
  have h2 : ¬ t.val % 2 = 1 := by omega
  rw [acc, if_neg h2, outsAt0_A m c t h h2, zero_add]
  frame_out
  pointwise [k0_pay2]

theorem step (c : Dev nD) (t : Fin cfg0.N) (h : ¬ t.val % 2 = 0) (y : S1024x1024.Idx) :
    acc m c t t.isLt y = acc m c (t.val - 1) (Nat.lt_of_le_of_lt (Nat.sub_le _ _) t.isLt) y
      + k0_pay1 (F := Ideal) (iblk m c 0 t) (iblk m c 1 t) y := by
  have h2 : t.val % 2 = 1 := by omega
  rw [acc, if_pos h2, acc, if_neg (by omega)]

/-- What the last point of a block's run stores: the whole sum and the residual. -/
theorem out (c : Dev nD) (t : Fin cfg0.N) (h : t.val % 2 = 1) (y : S1024x1024.Idx) :
    (outsAt0 m c t.val t.isLt).1 y = acc m c t t.isLt y + iblk m c 2 t y := by
  rw [acc, if_pos h, outsAt0_B m c t (by omega) h]
  frame_out
  pointwise [k0_pay4]
  rw [read_unread_whole]

/-- The result array after the run is the reference's. -/
theorem final (c : Dev nD) : (dats m 0 c).arrAt 3 (cfgs 0).N = REF m c := by
  refine (dats m 0 c).arrAt_eq_of_covers 3 _ (by decide +kernel) fun t hf y => ?_
  blk_simp
  have ht := (flush0_3 t).mp hf
  rw [after0_3]
  refine (out m c t ht y).trans ?_
  rw [Pipeline.eq_sum_fin_of_reset_step_apply_of_flush (acc m c) 2 (fun _ => 0) _ (reset m c) (step m c) t ht y, zero_add]
  pointwise [k0_pay1, REF, Cert.Reference12Ideal.Down.result]
  rw [add_comm]
  congr 1
  refine Fin.sum_mul_add_congr fun s k hl => ?_
  blk_point [iblk, V, idx t, idx ⟨_, Pipeline.run_point_lt_of_flush t ht s⟩]

end Cert.Kernel12Ideal.Down

namespace Cert.Down

open Cert.Kernel12.Gen

/-! The kernel's run gives both of its frames; with the reference's run, it gives the equality of the results. -/

theorem bodies : Cert.Kernel12.defs₀ (F := Bits) = Cert.Kernel12Ideal.defs₀ (F := Bits) := by
  funext l p a
  cases l with
  | tc => match p, a with
    | ⟨0, _⟩, (t, s) => rfl
  | _ => rfl

theorem frame_kernel : Cert.quiescent_Kernel12 := fun m ρ _ => by
  rw [show Cert.Kernel12.defs (F := Bits) = Cert.Kernel12Ideal.defs (F := Bits) from congrArg (Pipeline.defs Cert.Kernel12.pcfgs) bodies]
  exact Cert.Kernel12Ideal.Gen.frame (F := Bits) m ρ

theorem frame_ideal : Cert.quiescent_Kernel12Ideal := fun m ρ _ => Cert.Kernel12Ideal.Gen.frame m ρ

theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic : Cert.algebraic_Kernel12Ideal_Reference12Ideal := by
  pair_intro
  · run_from Cert.Kernel12Ideal.Gen.run_main m g
  · run_from Cert.Reference12Ideal.Value.run m' g'
    exact (Cert.Kernel12Ideal.Down.final m c).symm

end Cert.Down

end
-- ==== Proof.In.lean ====
module

public import proofs.«01_k».proof.Defs
public import proofs.«01_k».proof.Proof.Gen.Kernel13Ideal.Value
public import proofs.«01_k».proof.Proof.Gen.Kernel13
public import proofs.«01_k».proof.Proof.Gen.Reference13Ideal.Run
public import Idealize.ShloMosaic.Lib.Pipeline.ValueKit
public import Idealize.ShloMosaic.Lib.Pipeline.ReadBack
public import Idealize.ShloMosaic.Lib.Pointwise

/-! The input projection: each block is rows of the input against rows of the transposed weight. -/

@[expose] public section

set_option maxRecDepth 16384

noncomputable section

open Idealize.ShloMosaic Idealize.ShloMosaic.TcCoe Idealize.SL.Sem
open Idealize.ShloMosaic.Pipeline (Dat)

namespace Cert.Reference13Ideal.In

open Cert.Reference13Ideal Cert.Reference13Ideal.Gen

/-- The reference's result as a function of its arguments. -/
def result (x0 : FVec Ideal S4096x2048 .bf16) (x1 : FVec Ideal S5136x2048 .bf16) : FVec Ideal Cert.Reference13Ideal.S4096x5120 .f32 :=
  Host.dotGeneral dot_S4096x2048_S2048x5120_S4096x5120_1_0_0_1_n_n none (extf .f32 x0 bitsLt_bf16_f32) (extf .f32 (transpose S2048x5120 [1, 0] (extractStridedSlice S5120x2048 ![0, 0] x1 slices_S5136x2048_S5120x2048_0_0) transposes_S5120x2048_S2048x5120_1_0) bitsLt_bf16_f32)

end Cert.Reference13Ideal.In

namespace Cert.Kernel13Ideal.In

open Cert.Kernel13Ideal Cert.Kernel13Ideal.Gen

variable (m : (ℓ : Loc nD τ sig) → Buf (Elt Ideal) ℓ)

/-- The reference's result over the kernel's arguments. -/
abbrev REF (c : Dev nD) : FVec Ideal Cert.Reference13Ideal.S4096x5120 .f32 :=
  Cert.Reference13Ideal.In.result (m ((c : Thread nD τ).loc main_arg0)) (m ((c : Thread nD τ).loc main_arg1))

/-- Each window's block at each point of the grid. -/
theorem idx : ∀ t : Fin cfg0.N, win0_0.index t = ![t.val / 5, 0]
    ∧ win0_1.index t = ![t.val % 5, 0]
    ∧ win0_2.index t = ![t.val / 5, t.val % 5] :=
  (by decide +kernel : ∀ t : Fin grid0.N, _)

/-- The weight's block at point `t`, which lies inside the array. -/
theorem weight (c : Dev nD) (t : Fin cfg0.N) (k : Fin 1024) (l : Fin 2048) (i : S5136x2048.Idx)
    (h0 : (i 0 : ℕ) = t.val % 5 * 1024 + k) (h1 : (i 1 : ℕ) = l) :
    X0_1 m c t (ix2 k l) = m ((c : Thread nD τ).loc main_arg1) i := by
  unfold X0_1 Pipeline.Window.fill
  rw [dif_pos (moved0_1 t _)]
  blk_point [iblk, V, idx t]

/-- What the body stores at a place of point `t`'s block is the reference's element there. -/
theorem point (c : Dev nD) (t : Fin cfg0.N) (y) :
    k0_pay1 (iblk m c 0 t) (X0_1 m c t) y = REF m c (((cfg0.win 2).blk t).view.emb y) := by
  pointwise [k0_pay1, REF, Cert.Reference13Ideal.In.result]
  refine Fin.sum_fin_congr fun k => ?_
  congr 1
  · blk_point [iblk, V, idx t]
  · refine weight m c t _ _ _ ?_ ?_ <;> blk_simp [idx t]

/-- The result array after the run is the reference's. -/
theorem final (c : Dev nD) : (dats m 0 c).arrAt 2 (cfgs 0).N = REF m c := by
  refine (dats m 0 c).arrAt_eq_of_covers 2 _ (by decide +kernel) fun t hf y => ?_
  blk_simp
  rw [after0_2]
  unfold outsAt0
  frame_out
  exact point m c t y

end Cert.Kernel13Ideal.In

namespace Cert.In

open Cert.Kernel13.Gen

/-! The kernel's run gives both of its frames; with the reference's run, it gives the equality of the results. -/

theorem bodies : Cert.Kernel13.defs₀ (F := Bits) = Cert.Kernel13Ideal.defs₀ (F := Bits) := by
  funext l p a
  cases l with
  | tc => match p, a with
    | ⟨0, _⟩, (t, s) => rfl
  | _ => rfl

theorem frame_kernel : Cert.quiescent_Kernel13 := fun m ρ _ => by
  rw [show Cert.Kernel13.defs (F := Bits) = Cert.Kernel13Ideal.defs (F := Bits) from congrArg (Pipeline.defs Cert.Kernel13.pcfgs) bodies]
  exact Cert.Kernel13Ideal.Gen.frame (F := Bits) m ρ

theorem frame_ideal : Cert.quiescent_Kernel13Ideal := fun m ρ _ => Cert.Kernel13Ideal.Gen.frame m ρ

theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic : Cert.algebraic_Kernel13Ideal_Reference13Ideal := by
  pair_intro
  · run_from Cert.Kernel13Ideal.Gen.run_main m g
  · run_from Cert.Reference13Ideal.Value.run m' g'
    exact (Cert.Kernel13Ideal.In.final m c).symm

end Cert.In

end
-- ==== Proof.Norm.lean ====
module

public import proofs.«01_k».proof.Defs
public import proofs.«01_k».proof.Proof.Gen.Kernel14Ideal.Value
public import proofs.«01_k».proof.Proof.Gen.Kernel14
public import proofs.«01_k».proof.Proof.Gen.Reference14Ideal.Run
public import Idealize.ShloMosaic.Lib.Pipeline.ValueKit
public import Idealize.ShloMosaic.Lib.Pipeline.ReadBack
public import Idealize.ShloMosaic.Lib.Pointwise

/-! The gradient of the norm, added to the gradient that bypasses it. The mean of squares is positive with the small constant added, so no finiteness is needed. -/

@[expose] public section

set_option maxRecDepth 16384

noncomputable section

open Idealize.ShloMosaic Idealize.ShloMosaic.TcCoe Idealize.SL.Sem
open Idealize.ShloMosaic.Pipeline (Dat)

namespace Cert.Norm

/-! Three constants of the programs as reals, and the one identity that needs more than commutation. -/

theorem half_eq : Ideal.ofBits .f32 0xBF000000#32 = ((-(1 / 2) : ℝ) : EReal) := by
  simp [Ideal.ofBits, Ideal.ieee, -EReal.coe_mul]; norm_num

theorem width_eq : Ideal.ofBits .f32 0x45000000#32 = ((2048 : ℝ) : EReal) := by
  simp [Ideal.ofBits, Ideal.ieee, -EReal.coe_mul]; norm_num

theorem eps_pos : 0 < Ideal.ofBits .f32 0x358637BD#32 := by
  simp [Ideal.ofBits, Ideal.ieee, -EReal.coe_mul]

theorem div_width (y : EReal) : Ideal.div y (Ideal.ofBits .f32 0x45000000#32) = y * ((2048⁻¹ : ℝ) : EReal) := by
  rw [width_eq, Ideal.div, if_neg (by norm_num), EReal.coe_inv]

theorem self_nonneg (x : EReal) : 0 ≤ x * x := by
  rcases le_total 0 x with h | h
  · exact EReal.mul_nonneg h h
  · exact EReal.mul_nonneg_iff.2 (.inr ⟨h, h⟩)

/-- A reciprocal square root over its argument is its cube. -/
theorem rsqrt_div {v : EReal} (h : 0 < v) :
    Ideal.div (Ideal.rsqrt v) v = Ideal.rsqrt v * Ideal.rsqrt v * Ideal.rsqrt v := by
  induction v with
  | bot => simp at h
  | top =>
    show Ideal.div 0 ⊤ = 0 * 0 * 0
    simp [Ideal.div]
  | coe v =>
    have hv : 0 < v := EReal.coe_pos.1 h
    have hr : Ideal.rsqrt (v : EReal) = (((Real.sqrt v)⁻¹ : ℝ) : EReal) := by
      exact (if_neg (not_lt.2 hv.le)).trans (if_neg hv.ne')
    rw [hr, Ideal.div, if_neg h.ne', ← EReal.coe_inv, ← EReal.coe_mul, ← EReal.coe_mul, ← EReal.coe_mul]
    congr 1
    have hs := Real.sqrt_pos.2 hv
    rw [← mul_inv, ← mul_inv, ← mul_inv, Real.mul_self_sqrt hv.le, mul_comm]

/-- Two halves make a whole, at the infinities too. -/
theorem halves (a w : EReal) :
    a + ((-(1 / 2) : ℝ) : EReal) * w + ((-(1 / 2) : ℝ) : EReal) * w = a - w := by
  rw [add_assoc, sub_eq_add_neg]
  congr 1
  induction w with
  | bot => rw [EReal.coe_mul_bot_of_neg (by norm_num)]; rfl
  | top => rw [EReal.coe_mul_top_of_neg (by norm_num)]; rfl
  | coe w => rw [← EReal.coe_mul, ← EReal.coe_add, ← EReal.coe_neg]; congr 1; ring

/-- The two halves of the gradient through the scale add up to the one term the kernel subtracts. -/
theorem point (a x S v : EReal) (h : 0 < v) :
    a + x * Ideal.div (S * (Ideal.ofBits .f32 0xBF000000#32 * Ideal.div (Ideal.rsqrt v) v)) (Ideal.ofBits .f32 0x45000000#32)
      + Ideal.div (S * (Ideal.ofBits .f32 0xBF000000#32 * Ideal.div (Ideal.rsqrt v) v)) (Ideal.ofBits .f32 0x45000000#32) * x
    = a - x * (Ideal.rsqrt v * Ideal.rsqrt v * Ideal.rsqrt v) * Ideal.div S (Ideal.ofBits .f32 0x45000000#32) := by
  rw [rsqrt_div h, div_width, div_width, half_eq, mul_comm (S * _ * _) x, ← halves]
  have e (q : EReal) : x * (S * (((-(1 / 2) : ℝ) : EReal) * q) * ((2048⁻¹ : ℝ) : EReal)) = ((-(1 / 2) : ℝ) : EReal) * (x * q * (S * ((2048⁻¹ : ℝ) : EReal))) := by ac_rfl
  rw [e]

/-- The mean square with the small constant added is positive. -/
theorem square_pos {n : ℕ} (f : Fin n → EReal) :
    0 < Ideal.div (∑ k, f k * f k) (Ideal.ofBits .f32 0x45000000#32) + Ideal.ofBits .f32 0x358637BD#32 := by
  rw [div_width]
  refine lt_of_lt_of_le eps_pos (le_add_of_nonneg_left (EReal.mul_nonneg (Finset.sum_nonneg fun k _ => self_nonneg _) ?_))
  exact EReal.coe_nonneg.2 (by norm_num)

end Cert.Norm

namespace Cert.Reference14Ideal.Norm

open Cert.Reference14Ideal Cert.Reference14Ideal.Gen

/-- Each row's mean of squares, with the small constant added. -/
def square (x0 : FVec Ideal S4096x2048 .f32) : FVec Ideal S4096x1 .f32 :=
  addf (Host.divf (broadcastInDim S4096x1 ![0] bcast_S4096_S4096x1_0 (Host.reduceAdd (mulf x0 x0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))

def scale (x0 : FVec Ideal S4096x2048 .f32) : FVec Ideal S4096x1 .f32 :=
  Host.rsqrt (square x0)

/-- The gradient of the scaled row. -/
def inner (x1 : FVec Ideal S2048 .f32) (x2 : FVec Ideal S4096x2048 .f32) : FVec Ideal S4096x2048 .f32 :=
  mulf x2 (broadcastInDim S4096x2048 ![0, 1] bcast_S1x2048_S4096x2048_0_1 (broadcastInDim S1x2048 ![1] bcast_S2048_S1x2048_1 x1))

/-- Half of the gradient through the mean of squares, one number a row. -/
def slope (x0 : FVec Ideal S4096x2048 .f32) (x1 : FVec Ideal S2048 .f32) (x2 : FVec Ideal S4096x2048 .f32) : FVec Ideal S4096x1 .f32 :=
  Host.divf (mulf (shapeCast _ (Host.reduceAdd (mulf x0 (inner x1 x2)) (constant S_ .f32 0x00000000#32) reducesTo_S4096x2048_S4096_d1 h_S_) shapeCasts_S4096_S4096x1) (mulf (broadcastInDim S4096x1 ![] bcast_S_S4096x1 (constant S_ .f32 0xBF000000#32)) (Host.divf (scale x0) (square x0)))) (broadcastInDim S4096x1 ![] bcast_S_S4096x1 (constant S_ .f32 0x45000000#32))

/-- The gradient of the rows. -/
def rows (x0 : FVec Ideal S4096x2048 .f32) (x1 : FVec Ideal S2048 .f32) (x2 x3 : FVec Ideal S4096x2048 .f32) : FVec Ideal S4096x2048 .f32 :=
  addf (addf (addf x3 (mulf (inner x1 x2) (broadcastInDim S4096x2048 ![0, 1] bcast_S4096x1_S4096x2048_0_1 (scale x0)))) (mulf x0 (broadcastInDim S4096x2048 ![0] bcast_S4096_S4096x2048_0 (Host.reduceAdd (slope x0 x1 x2) (constant S_ .f32 0x00000000#32) reducesTo_S4096x1_S4096_d1 h_S_)))) (mulf (broadcastInDim S4096x2048 ![0] bcast_S4096_S4096x2048_0 (Host.reduceAdd (slope x0 x1 x2) (constant S_ .f32 0x00000000#32) reducesTo_S4096x1_S4096_d1 h_S_)) x0)

/-- The gradient of the weight. -/
def weight (x0 x2 : FVec Ideal S4096x2048 .f32) : FVec Ideal S1x2048 .f32 :=
  shapeCast _ (Host.reduceAdd (shapeCast _ (Host.reduceAdd (mulf (mulf x0 (broadcastInDim S4096x2048 ![0, 1] bcast_S4096x1_S4096x2048_0_1 (scale x0))) x2) (constant S_ .f32 0x00000000#32) reducesTo_S4096x2048_S2048_d0 h_S_) shapeCasts_S2048_S1x2048) (constant S_ .f32 0x00000000#32) reducesTo_S1x2048_S2048_d0 h_S_) shapeCasts_S2048_S1x2048

end Cert.Reference14Ideal.Norm

namespace Cert.Kernel14Ideal.Norm

open Cert.Kernel14Ideal Cert.Kernel14Ideal.Gen

variable (m : (ℓ : Loc nD τ sig) → Buf (Elt Ideal) ℓ)

/-- The reference's gradients over the kernel's arguments. -/
abbrev ROWS (c : Dev nD) : FVec Ideal Cert.Reference14Ideal.S4096x2048 .f32 :=
  Cert.Reference14Ideal.Norm.rows (m ((c : Thread nD τ).loc main_arg0)) (m ((c : Thread nD τ).loc main_arg1)) (m ((c : Thread nD τ).loc main_arg2)) (m ((c : Thread nD τ).loc main_arg3))

abbrev WEIGHT (c : Dev nD) : FVec Ideal Cert.Reference14Ideal.S1x2048 .f32 :=
  Cert.Reference14Ideal.Norm.weight (m ((c : Thread nD τ).loc main_arg0)) (m ((c : Thread nD τ).loc main_arg2))

theorem idx : ∀ t : Fin cfg0.N, win0_0.index t = ![t.val, 0] ∧ win0_1.index t = ![0, 0]
    ∧ win0_2.index t = ![t.val, 0] ∧ win0_3.index t = ![t.val, 0]
    ∧ win0_4.index t = ![t.val, 0] ∧ win0_5.index t = ![t.val, 0] ∧ win0_6.index t = ![0, 0] :=
  (by decide +kernel : ∀ t : Fin grid0.N, _)

/-- What a point computes of its rows is the reference's gradient there. -/
theorem core (c : Dev nD) (t : Fin cfg0.N) (y : S512x2048.Idx) (j : S4096x2048.Idx)
    (h0 : (j 0 : ℕ) = t.val * 512 + y 0) (h1 : (j 1 : ℕ) = y 1) :
    k0_pay3 (F := Ideal) (iblk m c 0 t) (iblk m c 2 t) (iblk m c 1 t) (iblk m c 3 t) y = ROWS m c j := by
  pointwise [k0_pay3, k0_pay2, ROWS, Cert.Reference14Ideal.Norm.rows, Cert.Reference14Ideal.Norm.scale, Cert.Reference14Ideal.Norm.square, Cert.Reference14Ideal.Norm.inner, Cert.Reference14Ideal.Norm.slope]
  simp only [Fin.sum_univ_one]
  refine Eq.trans ?_ (Cert.Norm.point _ _ _ _ (Cert.Norm.square_pos _)).symm
  blk_point [iblk, idx t]

/-- A point's rows, whichever of the two cases it is in. -/
theorem rows_at (c : Dev nD) (t : Fin cfg0.N) (y : S512x2048.Idx) :
    (outsAt0 m c t.val t.isLt).1 y = k0_pay3 (F := Ideal) (iblk m c 0 t) (iblk m c 2 t) (iblk m c 1 t) (iblk m c 3 t) y := by
  have ht := lt_of_lt_of_eq t.isLt N_0
  by_cases h : t.val % 8 = 0
  · rw [outsAt0_A m c t h (by omega)]; frame_out
  · rw [outsAt0_B m c t h (by omega)]; frame_out

theorem half_at (c : Dev nD) (t : Fin cfg0.N) (y : S512x2048.Idx) :
    (outsAt0 m c t.val t.isLt).2.1 y = k0_pay4 (F := Ideal) (iblk m c 0 t) (iblk m c 2 t) (iblk m c 1 t) (iblk m c 3 t) y := by
  have ht := lt_of_lt_of_eq t.isLt N_0
  by_cases h : t.val % 8 = 0
  · rw [outsAt0_A m c t h (by omega)]; frame_out
  · rw [outsAt0_B m c t h (by omega)]; frame_out

theorem final_rows (c : Dev nD) : (dats m 0 c).arrAt 4 (cfgs 0).N = ROWS m c := by
  refine (dats m 0 c).arrAt_eq_of_covers 4 _ (by decide +kernel) fun t hf y => ?_
  blk_simp
  rw [after0_4]
  refine (rows_at m c t y).trans (core m c t y _ ?_ ?_)
  all_goals blk_simp [idx t]

theorem final_half (c : Dev nD) : (dats m 0 c).arrAt 5 (cfgs 0).N = truncf .bf16 (ROWS m c) bitsLt_bf16_f32 := by
  refine (dats m 0 c).arrAt_eq_of_covers 5 _ (by decide +kernel) fun t hf y => ?_
  blk_simp
  rw [after0_5]
  refine (half_at m c t y).trans (core m c t y _ ?_ ?_)
  all_goals blk_simp [idx t]

/-- The weight's gradient is summed over the runs of rows. -/
theorem final_weight (c : Dev nD) : (dats m 0 c).arrAt 6 (cfgs 0).N = WEIGHT m c := by
  refine (dats m 0 c).arrAt_eq_of_covers 6 _ (by decide +kernel) fun t hf y => ?_
  blk_simp
  have ht := (flush0_6 t).mp hf
  have hN := lt_of_lt_of_eq t.isLt N_0
  rw [after0_6]
  rw [Pipeline.eq_sum_fin_of_reset_step_apply_of_flush (fun n h => (outsAt0 m c n h).2.2) 8 (fun _ => 0)
    (fun p y => k0_pay5 (F := Ideal) (iblk m c 0 p) (iblk m c 2 p) y)
    (fun t h j => by rw [outsAt0_A m c t h (by have := lt_of_lt_of_eq t.isLt N_0; omega)]; frame_out; rw [zero_add])
    (fun t h j => by rw [outsAt0_B m c t h (by omega)]; frame_out; pointwise [k0_pay1]) t ht y, zero_add]
  pointwise [k0_pay5, k0_pay2, WEIGHT, Cert.Reference14Ideal.Norm.weight, Cert.Reference14Ideal.Norm.scale, Cert.Reference14Ideal.Norm.square]
  simp only [Fin.sum_univ_one]
  refine Fin.sum_mul_add_congr fun s k hl => ?_
  rw [mul_assoc, mul_comm]
  blk_point [iblk, V, idx t, idx ⟨_, Pipeline.run_point_lt_of_flush t ht s⟩]

end Cert.Kernel14Ideal.Norm

namespace Cert.Norm

open Cert.Kernel14.Gen

/-! The kernel's run gives both of its frames; with the reference's run, it gives the equality of the results. -/

theorem bodies : Cert.Kernel14.defs₀ (F := Bits) = Cert.Kernel14Ideal.defs₀ (F := Bits) := by
  funext l p a
  cases l with
  | tc => match p, a with
    | ⟨0, _⟩, (t, s) => rfl
  | _ => rfl

theorem frame_kernel : Cert.quiescent_Kernel14 := fun m ρ _ => by
  rw [show Cert.Kernel14.defs (F := Bits) = Cert.Kernel14Ideal.defs (F := Bits) from congrArg (Pipeline.defs Cert.Kernel14.pcfgs) bodies]
  exact Cert.Kernel14Ideal.Gen.frame (F := Bits) m ρ

theorem frame_ideal : Cert.quiescent_Kernel14Ideal := fun m ρ _ => Cert.Kernel14Ideal.Gen.frame m ρ

theorem frame_reference : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

theorem algebraic : Cert.algebraic_Kernel14Ideal_Reference14Ideal := by
  pair_intro
  · run_from Cert.Kernel14Ideal.Gen.run_main m g
  · run_from Cert.Reference14Ideal.Value.run m' g'
    · exact (Cert.Kernel14Ideal.Norm.final_rows m c).symm
    · exact (Cert.Kernel14Ideal.Norm.final_half m c).symm
    · exact (Cert.Kernel14Ideal.Norm.final_weight m c).symm

end Cert.Norm

end
-- ==== Proof.SmallA.lean ====
module

public import proofs.«01_k».proof.Defs
public import proofs.«01_k».proof.Proof.Gen.Kernel15Ideal.Value
public import proofs.«01_k».proof.Proof.Gen.Kernel15
public import proofs.«01_k».proof.Proof.Gen.Reference15Ideal.Run
public import Idealize.ShloMosaic.Lib.Pipeline.ValueKit
public import Idealize.ShloMosaic.Lib.Pipeline.ReadBack
public import Idealize.ShloMosaic.Lib.Pointwise

/-! The update of four small weights: no arithmetic is moved, so the two programs give the same terms. -/

@[expose] public section

set_option maxRecDepth 16384

noncomputable section

open Idealize.ShloMosaic Idealize.ShloMosaic.TcCoe Idealize.SL.Sem
open Idealize.ShloMosaic.Pipeline (Dat)

namespace Cert.SmallA

open Cert.Kernel15.Gen

/-! The kernel's run gives both of its frames; with the reference's run, it gives the equality of the results. -/

theorem bodies : Cert.Kernel15.defs₀ (F := Bits) = Cert.Kernel15Ideal.defs₀ (F := Bits) := by
  sl_kernel_rfl

set_option maxHeartbeats 4000000 in
theorem frame_kernel : Cert.quiescent_Kernel15 := fun m ρ _ => by
  rw [show Cert.Kernel15.defs (F := Bits) = Cert.Kernel15Ideal.defs (F := Bits) from congrArg (Pipeline.defs Cert.Kernel15.pcfgs) bodies]
  exact Cert.Kernel15Ideal.Gen.frame (F := Bits) m ρ

theorem frame_ideal : Cert.quiescent_Kernel15Ideal := fun m ρ _ => Cert.Kernel15Ideal.Gen.frame m ρ

theorem frame_reference : Cert.quiescent_Reference15Ideal := fun m ρ _ =>
  (θ_run Cert.Reference15Ideal.defs _ _).mono (fun r h => ⟨fun c => (h c).2.2.2.2.2.2.2.2.2.2.2.2, sem_eq_zero_of_no_sems (by decide) r.2⟩)
    (Cert.Reference15Ideal.Value.run (F := Ideal) m ρ)

set_option maxHeartbeats 4000000 in
theorem algebraic : Cert.algebraic_Kernel15Ideal_Reference15Ideal := by
  pair_intro
  · run_from Cert.Kernel15Ideal.Value.run m g
  · run_from Cert.Reference15Ideal.Value.run m' g'
    all_goals rfl

end Cert.SmallA

end
-- ==== Proof.SmallB.lean ====
module

public import proofs.«01_k».proof.Defs
public import proofs.«01_k».proof.Proof.Gen.Kernel16Ideal.Value
public import proofs.«01_k».proof.Proof.Gen.Kernel16
public import proofs.«01_k».proof.Proof.Gen.Reference16Ideal.Run
public import Idealize.ShloMosaic.Lib.Pipeline.ValueKit
public import Idealize.ShloMosaic.Lib.Pipeline.ReadBack
public import Idealize.ShloMosaic.Lib.Pointwise

/-! The update of three small weights: no arithmetic is moved, so the two programs give the same terms. -/

@[expose] public section

set_option maxRecDepth 16384

noncomputable section

open Idealize.ShloMosaic Idealize.ShloMosaic.TcCoe Idealize.SL.Sem
open Idealize.ShloMosaic.Pipeline (Dat)

namespace Cert.SmallB

open Cert.Kernel16.Gen

/-! The kernel's run gives both of its frames; with the reference's run, it gives the equality of the results. -/

theorem bodies : Cert.Kernel16.defs₀ (F := Bits) = Cert.Kernel16Ideal.defs₀ (F := Bits) := by
  sl_kernel_rfl

theorem frame_kernel : Cert.quiescent_Kernel16 := fun m ρ _ => by
  rw [show Cert.Kernel16.defs (F := Bits) = Cert.Kernel16Ideal.defs (F := Bits) from congrArg (Pipeline.defs Cert.Kernel16.pcfgs) bodies]
  exact Cert.Kernel16Ideal.Gen.frame (F := Bits) m ρ

theorem frame_ideal : Cert.quiescent_Kernel16Ideal := fun m ρ _ => Cert.Kernel16Ideal.Gen.frame m ρ

theorem frame_reference : Cert.quiescent_Reference16Ideal := fun m ρ _ =>
  (θ_run Cert.Reference16Ideal.defs _ _).mono (fun r h => ⟨fun c => (h c).2.2.2.2.2.2.2.2.2, sem_eq_zero_of_no_sems (by decide) r.2⟩)
    (Cert.Reference16Ideal.Value.run (F := Ideal) m ρ)

theorem algebraic : Cert.algebraic_Kernel16Ideal_Reference16Ideal := by
  pair_intro
  · run_from Cert.Kernel16Ideal.Value.run m g
  · run_from Cert.Reference16Ideal.Value.run m' g'
    all_goals rfl

end Cert.SmallB

end
-- ==== Proof.SmallC.lean ====
module

public import proofs.«01_k».proof.Defs
public import proofs.«01_k».proof.Proof.Gen.Kernel17Ideal.Value
public import proofs.«01_k».proof.Proof.Gen.Kernel17
public import proofs.«01_k».proof.Proof.Gen.Reference17Ideal.Run
public import Idealize.ShloMosaic.Lib.Pipeline.ValueKit
public import Idealize.ShloMosaic.Lib.Pipeline.ReadBack
public import Idealize.ShloMosaic.Lib.Pointwise

/-! The update of three small weights: no arithmetic is moved, so the two programs give the same terms. -/

@[expose] public section

set_option maxRecDepth 16384

noncomputable section

open Idealize.ShloMosaic Idealize.ShloMosaic.TcCoe Idealize.SL.Sem
open Idealize.ShloMosaic.Pipeline (Dat)

namespace Cert.SmallC

open Cert.Kernel17.Gen

/-! The kernel's run gives both of its frames; with the reference's run, it gives the equality of the results. -/

theorem bodies : Cert.Kernel17.defs₀ (F := Bits) = Cert.Kernel17Ideal.defs₀ (F := Bits) := by
  sl_kernel_rfl

theorem frame_kernel : Cert.quiescent_Kernel17 := fun m ρ _ => by
  rw [show Cert.Kernel17.defs (F := Bits) = Cert.Kernel17Ideal.defs (F := Bits) from congrArg (Pipeline.defs Cert.Kernel17.pcfgs) bodies]
  exact Cert.Kernel17Ideal.Gen.frame (F := Bits) m ρ

theorem frame_ideal : Cert.quiescent_Kernel17Ideal := fun m ρ _ => Cert.Kernel17Ideal.Gen.frame m ρ

theorem frame_reference : Cert.quiescent_Reference17Ideal := fun m ρ _ =>
  (θ_run Cert.Reference17Ideal.defs _ _).mono (fun r h => ⟨fun c => (h c).2.2.2.2.2.2.2.2.2, sem_eq_zero_of_no_sems (by decide) r.2⟩)
    (Cert.Reference17Ideal.Value.run (F := Ideal) m ρ)

theorem algebraic : Cert.algebraic_Kernel17Ideal_Reference17Ideal := by
  pair_intro
  · run_from Cert.Kernel17Ideal.Value.run m g
  · run_from Cert.Reference17Ideal.Value.run m' g'
    all_goals rfl

end Cert.SmallC

end
-- ==== Proof.SmallD.lean ====
module

public import proofs.«01_k».proof.Defs
public import proofs.«01_k».proof.Proof.Gen.Kernel18Ideal.Value
public import proofs.«01_k».proof.Proof.Gen.Kernel18
public import proofs.«01_k».proof.Proof.Gen.Reference18Ideal.Run
public import Idealize.ShloMosaic.Lib.Pipeline.ValueKit
public import Idealize.ShloMosaic.Lib.Pipeline.ReadBack
public import Idealize.ShloMosaic.Lib.Pointwise

/-! The update of four small weights: no arithmetic is moved, so the two programs give the same terms. -/

@[expose] public section

set_option maxRecDepth 16384

noncomputable section

open Idealize.ShloMosaic Idealize.ShloMosaic.TcCoe Idealize.SL.Sem
open Idealize.ShloMosaic.Pipeline (Dat)

namespace Cert.SmallD

open Cert.Kernel18.Gen

/-! The kernel's run gives both of its frames; with the reference's run, it gives the equality of the results. -/

theorem bodies : Cert.Kernel18.defs₀ (F := Bits) = Cert.Kernel18Ideal.defs₀ (F := Bits) := by
  sl_kernel_rfl

set_option maxHeartbeats 4000000 in
theorem frame_kernel : Cert.quiescent_Kernel18 := fun m ρ _ => by
  rw [show Cert.Kernel18.defs (F := Bits) = Cert.Kernel18Ideal.defs (F := Bits) from congrArg (Pipeline.defs Cert.Kernel18.pcfgs) bodies]
  exact Cert.Kernel18Ideal.Gen.frame (F := Bits) m ρ

theorem frame_ideal : Cert.quiescent_Kernel18Ideal := fun m ρ _ => Cert.Kernel18Ideal.Gen.frame m ρ

theorem frame_reference : Cert.quiescent_Reference18Ideal := fun m ρ _ =>
  (θ_run Cert.Reference18Ideal.defs _ _).mono (fun r h => ⟨fun c => (h c).2.2.2.2.2.2.2.2.2.2.2.2, sem_eq_zero_of_no_sems (by decide) r.2⟩)
    (Cert.Reference18Ideal.Value.run (F := Ideal) m ρ)

set_option maxHeartbeats 4000000 in
theorem algebraic : Cert.algebraic_Kernel18Ideal_Reference18Ideal := by
  pair_intro
  · run_from Cert.Kernel18Ideal.Value.run m g
  · run_from Cert.Reference18Ideal.Value.run m' g'
    all_goals rfl

end Cert.SmallD

end
-- ==== Proof.BigDown.lean ====
module

public import proofs.«01_k».proof.Defs
public import proofs.«01_k».proof.Proof.Gen.Kernel19Ideal.Frame
public import proofs.«01_k».proof.Proof.Gen.Kernel19
public import proofs.«01_k».proof.Proof.Gen.Reference19Ideal.Run
public import Idealize.ShloMosaic.Lib.Pipeline.ValueKit
public import Idealize.ShloMosaic.Lib.Pipeline.ReadBack
public import Idealize.ShloMosaic.Lib.Pointwise

/-! The update of a big weight, a layer a call: the second call is given the arrays of the first and writes the other layer of them. -/

@[expose] public section

set_option maxRecDepth 16384

noncomputable section

open Idealize.ShloMosaic Idealize.ShloMosaic.TcCoe Idealize.SL.Sem
open Idealize.ShloMosaic.Pipeline (Dat)

namespace Cert.Reference19Ideal.BigDown

open Cert.Reference19Ideal Cert.Reference19Ideal.Gen

/-- Each layer's gradient, summed over its senders. -/
def total (x3 x4 : FVec Ideal S8x704x2048 .bf16) : FVec Ideal S2x704x2048 .f32 :=
  concatenate S2x704x2048 0 [⟨S1x704x2048, (broadcastInDim S1x704x2048 ![1, 2] bcast_S704x2048_S1x704x2048_1_2 (Host.reduceAdd (extf .f32 x3 bitsLt_bf16_f32) (constant S_ .f32 0x00000000#32) reducesTo_S8x704x2048_S704x2048_d0 h_S_))⟩, ⟨S1x704x2048, (broadcastInDim S1x704x2048 ![1, 2] bcast_S704x2048_S1x704x2048_1_2 (Host.reduceAdd (extf .f32 x4 bitsLt_bf16_f32) (constant S_ .f32 0x00000000#32) reducesTo_S8x704x2048_S704x2048_d0 h_S_))⟩] concatenates_S1x704x2048_S1x704x2048_S2x704x2048_d0

/-- The running mean of the gradients. -/
def first (x1 g : FVec Ideal S2x704x2048 .f32) : FVec Ideal S2x704x2048 .f32 :=
  addf (mulf (broadcastInDim S2x704x2048 ![] bcast_S_S2x704x2048 (constant S_ .f32 0x3F666666#32)) x1) (mulf (broadcastInDim S2x704x2048 ![] bcast_S_S2x704x2048 (constant S_ .f32 0x3DCCCCCD#32)) g)

/-- The running mean of their squares. -/
def second (x2 g : FVec Ideal S2x704x2048 .f32) : FVec Ideal S2x704x2048 .f32 :=
  addf (mulf (broadcastInDim S2x704x2048 ![] bcast_S_S2x704x2048 (constant S_ .f32 0x3F7FBE77#32)) x2) (mulf (broadcastInDim S2x704x2048 ![] bcast_S_S2x704x2048 (constant S_ .f32 0x3A83126F#32)) (mulf g g))

/-- The change of the weight. -/
def step (x0 x1 x2 g : FVec Ideal S2x704x2048 .f32) : FVec Ideal S2x704x2048 .f32 :=
  mulf (broadcastInDim S2x704x2048 ![] bcast_S_S2x704x2048 (constant S_ .f32 0xBA83126F#32)) (addf (Host.divf (Host.divf (first x1 g) (broadcastInDim S2x704x2048 ![] bcast_S_S2x704x2048 (constant S_ .f32 0x3F26BD02#32))) (addf (Host.sqrt (Host.divf (second x2 g) (broadcastInDim S2x704x2048 ![] bcast_S_S2x704x2048 (constant S_ .f32 0x3C231ACC#32)))) (broadcastInDim S2x704x2048 ![] bcast_S_S2x704x2048 (constant S_ .f32 0x322BCC77#32)))) (mulf (broadcastInDim S2x704x2048 ![] bcast_S_S2x704x2048 (constant S_ .f32 0x3C23D70A#32)) x0))

variable (m : (ℓ : Loc nD τ sig) → Buf (Elt Ideal) ℓ)

/-- The reference's run, its results named. -/
theorem run (ρ : Dev nD → PrngReg) : θ_run defs (onTc (τ := τ) (main (F := Ideal))) ⟨m, fun _ => 0, ρ⟩ fun r => ∀ c : Dev nD,
      r.2.mem ((c.tc : Thread nD τ).loc main_v6) = total (m ((c.tc : Thread nD τ).loc main_arg3)) (m ((c.tc : Thread nD τ).loc main_arg4))
      ∧ r.2.mem ((c.tc : Thread nD τ).loc main_v30) = step (m ((c.tc : Thread nD τ).loc main_arg0)) (m ((c.tc : Thread nD τ).loc main_arg1)) (m ((c.tc : Thread nD τ).loc main_arg2)) (total (m ((c.tc : Thread nD τ).loc main_arg3)) (m ((c.tc : Thread nD τ).loc main_arg4)))
      ∧ r.2.mem ((c.tc : Thread nD τ).loc main_v11) = first (m ((c.tc : Thread nD τ).loc main_arg1)) (total (m ((c.tc : Thread nD τ).loc main_arg3)) (m ((c.tc : Thread nD τ).loc main_arg4)))
      ∧ r.2.mem ((c.tc : Thread nD τ).loc main_v17) = second (m ((c.tc : Thread nD τ).loc main_arg2)) (total (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1, (h c).2.1, (h c).2.2.1, (h c).2.2.2.1, (h c).2.2.2.2⟩) (Value.run m ρ)

end Cert.Reference19Ideal.BigDown

namespace Cert.Kernel19Ideal.BigDown

open Cert.Kernel19Ideal Cert.Kernel19Ideal.Gen

variable (m : (ℓ : Loc nD τ sig) → Buf (Elt Ideal) ℓ) (ρ : Dev nD → PrngReg)

abbrev TOTAL (c : Dev nD) : FVec Ideal Cert.Reference19Ideal.S2x704x2048 .f32 :=
  Cert.Reference19Ideal.BigDown.total (m ((c : Thread nD τ).loc main_arg3)) (m ((c : Thread nD τ).loc main_arg4))

abbrev FIRST (c : Dev nD) : FVec Ideal Cert.Reference19Ideal.S2x704x2048 .f32 :=
  Cert.Reference19Ideal.BigDown.first (m ((c : Thread nD τ).loc main_arg1)) (TOTAL m c)

abbrev SECOND (c : Dev nD) : FVec Ideal Cert.Reference19Ideal.S2x704x2048 .f32 :=
  Cert.Reference19Ideal.BigDown.second (m ((c : Thread nD τ).loc main_arg2)) (TOTAL m c)

abbrev STEP (c : Dev nD) : FVec Ideal Cert.Reference19Ideal.S2x704x2048 .f32 :=
  Cert.Reference19Ideal.BigDown.step (m ((c : Thread nD τ).loc main_arg0)) (m ((c : Thread nD τ).loc main_arg1)) (m ((c : Thread nD τ).loc main_arg2)) (TOTAL m c)

theorem idx0 : ∀ t : Fin cfg0.N, win0_0.index t = ![1, t.val, 0] ∧ win0_1.index t = ![1, t.val, 0] ∧ win0_2.index t = ![1, t.val, 0]
    ∧ win0_3.index t = ![0, t.val, 0] ∧ win0_4.index t = ![1, t.val, 0] ∧ win0_5.index t = ![1, t.val, 0]
    ∧ win0_6.index t = ![1, t.val, 0] ∧ win0_7.index t = ![1, t.val, 0] :=
  (by decide +kernel : ∀ t : Fin grid0.N, _)

theorem idx1 : ∀ t : Fin cfg1.N, win1_0.index t = ![0, t.val, 0] ∧ win1_1.index t = ![0, t.val, 0] ∧ win1_2.index t = ![0, t.val, 0]
    ∧ win1_3.index t = ![0, t.val, 0] ∧ win1_4.index t = ![0, t.val, 0] ∧ win1_5.index t = ![0, t.val, 0]
    ∧ win1_6.index t = ![0, t.val, 0] ∧ win1_7.index t = ![0, t.val, 0] :=
  (by decide +kernel : ∀ t : Fin grid1.N, _)

/-- The second call finds the arguments as they were. -/
theorem kept (c : Dev nD) : V2 m ρ c main_arg0 = m ((c : Thread nD τ).loc main_arg0) ∧ V2 m ρ c main_arg1 = m ((c : Thread nD τ).loc main_arg1)
    ∧ V2 m ρ c main_arg2 = m ((c : Thread nD τ).loc main_arg2) ∧ V2 m ρ c main_arg3 = m ((c : Thread nD τ).loc main_arg3) :=
  ⟨W2_args m ρ c _ (by decide), W2_args m ρ c _ (by decide), W2_args m ρ c _ (by decide), W2_args m ρ c _ (by decide)⟩

/-- The first call's sum over the senders, at its layer. -/
theorem upper_total (c : Dev nD) (t : Fin cfg0.N) (y : S1x64x2048.Idx) (j : S2x704x2048.Idx)
    (h0 : (j 0 : ℕ) = 1) (h1 : (j 1 : ℕ) = t.val * 64 + y 1) (h2 : (j 2 : ℕ) = y 2) (x0 x1 x2 : Vec Ideal S1x64x2048 .f32) :
    k0_pay8 (F := Ideal) x0 x1 x2 (iblk0 (V0 m ρ) c 3 t) (ix2 (y 1) (y 2)) = TOTAL m c j := by
  pointwise [k0_pay8, k0_pay3, TOTAL, Cert.Reference19Ideal.BigDown.total]
  rw [dif_neg (by omega), Fin.sum_univ_eight]
  blk_point [iblk0, idx0 t]

/-- The second call's, at the other layer. -/
theorem lower_total (c : Dev nD) (t : Fin cfg1.N) (y : S1x64x2048.Idx) (j : S2x704x2048.Idx)
    (h0 : (j 0 : ℕ) = 0) (h1 : (j 1 : ℕ) = t.val * 64 + y 1) (h2 : (j 2 : ℕ) = y 2) :
    k1_pay3 (F := Ideal) (View.ld (iblk1 (V2 m ρ) c 3 t) r0_0) (View.ld (iblk1 (V2 m ρ) c 3 t) r0_1) (View.ld (iblk1 (V2 m ρ) c 3 t) r0_2) (View.ld (iblk1 (V2 m ρ) c 3 t) r0_3)
      (View.ld (iblk1 (V2 m ρ) c 3 t) r0_4) (View.ld (iblk1 (V2 m ρ) c 3 t) r0_5) (View.ld (iblk1 (V2 m ρ) c 3 t) r0_6) (View.ld (iblk1 (V2 m ρ) c 3 t) r0_7) (ix2 (y 1) (y 2)) = TOTAL m c j := by
  pointwise [k1_pay3, TOTAL, Cert.Reference19Ideal.BigDown.total]
  rw [dif_pos (by omega), Fin.sum_univ_eight]
  blk_point [iblk1, idx1 t, kept m ρ c]

theorem lower_total' (c : Dev nD) (t : Fin cfg1.N) (y : S1x64x2048.Idx) (j : S2x704x2048.Idx)
    (h0 : (j 0 : ℕ) = 0) (h1 : (j 1 : ℕ) = t.val * 64 + y 1) (h2 : (j 2 : ℕ) = y 2) :
    (outsAt1 (V2 m ρ) c t).1 y = TOTAL m c j := by
  dsimp only [outsAt1]
  frame_out
  pointwise [k1_pay4]
  exact lower_total m ρ c t y j h0 h1 h2

theorem upper_total' (c : Dev nD) (t : Fin cfg0.N) (y : S1x64x2048.Idx) (j : S2x704x2048.Idx)
    (h0 : (j 0 : ℕ) = 1) (h1 : (j 1 : ℕ) = t.val * 64 + y 1) (h2 : (j 2 : ℕ) = y 2) :
    out0_4 (iblk0 (V0 m ρ) c 0 t) (iblk0 (V0 m ρ) c 1 t) (iblk0 (V0 m ρ) c 2 t) (iblk0 (V0 m ρ) c 3 t) y = TOTAL m c j := by
  unfold out0_4
  frame_out
  pointwise [k0_pay4]
  exact upper_total m ρ c t y j h0 h1 h2 _ _ _

theorem upper_step (c : Dev nD) (t : Fin cfg0.N) (y : S1x64x2048.Idx) (j : S2x704x2048.Idx)
    (h0 : (j 0 : ℕ) = 1) (h1 : (j 1 : ℕ) = t.val * 64 + y 1) (h2 : (j 2 : ℕ) = y 2) :
    out0_5 (iblk0 (V0 m ρ) c 0 t) (iblk0 (V0 m ρ) c 1 t) (iblk0 (V0 m ρ) c 2 t) (iblk0 (V0 m ρ) c 3 t) y = STEP m c j := by
  unfold out0_5
  frame_out
  pointwise [k0_pay7, k0_pay5, k0_pay6, STEP, Cert.Reference19Ideal.BigDown.step, Cert.Reference19Ideal.BigDown.first, Cert.Reference19Ideal.BigDown.second]
  rw [upper_total m ρ c t y j h0 h1 h2]
  blk_point [iblk0, idx0 t]

theorem lower_step (c : Dev nD) (t : Fin cfg1.N) (y : S1x64x2048.Idx) (j : S2x704x2048.Idx)
    (h0 : (j 0 : ℕ) = 0) (h1 : (j 1 : ℕ) = t.val * 64 + y 1) (h2 : (j 2 : ℕ) = y 2) :
    (outsAt1 (V2 m ρ) c t).2.1 y = STEP m c j := by
  dsimp only [outsAt1]
  frame_out
  pointwise [k1_pay7, k1_pay5, k1_pay6, STEP, Cert.Reference19Ideal.BigDown.step, Cert.Reference19Ideal.BigDown.first, Cert.Reference19Ideal.BigDown.second]
  erw [lower_total m ρ c t y j h0 h1 h2]
  blk_point [iblk1, idx1 t, kept m ρ c]

theorem upper_first (c : Dev nD) (t : Fin cfg0.N) (y : S1x64x2048.Idx) (j : S2x704x2048.Idx)
    (h0 : (j 0 : ℕ) = 1) (h1 : (j 1 : ℕ) = t.val * 64 + y 1) (h2 : (j 2 : ℕ) = y 2) :
    out0_6 (iblk0 (V0 m ρ) c 0 t) (iblk0 (V0 m ρ) c 1 t) (iblk0 (V0 m ρ) c 2 t) (iblk0 (V0 m ρ) c 3 t) y = FIRST m c j := by
  unfold out0_6
  frame_out
  pointwise [k0_pay1, k0_pay5, FIRST, Cert.Reference19Ideal.BigDown.first]
  rw [upper_total m ρ c t y j h0 h1 h2]
  blk_point [iblk0, idx0 t]

theorem lower_first (c : Dev nD) (t : Fin cfg1.N) (y : S1x64x2048.Idx) (j : S2x704x2048.Idx)
    (h0 : (j 0 : ℕ) = 0) (h1 : (j 1 : ℕ) = t.val * 64 + y 1) (h2 : (j 2 : ℕ) = y 2) :
    (outsAt1 (V2 m ρ) c t).2.2.1 y = FIRST m c j := by
  dsimp only [outsAt1]
  frame_out
  pointwise [k1_pay1, k1_pay5, FIRST, Cert.Reference19Ideal.BigDown.first]
  erw [lower_total m ρ c t y j h0 h1 h2]
  blk_point [iblk1, idx1 t, kept m ρ c]

theorem upper_second (c : Dev nD) (t : Fin cfg0.N) (y : S1x64x2048.Idx) (j : S2x704x2048.Idx)
    (h0 : (j 0 : ℕ) = 1) (h1 : (j 1 : ℕ) = t.val * 64 + y 1) (h2 : (j 2 : ℕ) = y 2) :
    out0_7 (iblk0 (V0 m ρ) c 0 t) (iblk0 (V0 m ρ) c 1 t) (iblk0 (V0 m ρ) c 2 t) (iblk0 (V0 m ρ) c 3 t) y = SECOND m c j := by
  unfold out0_7
  frame_out
  pointwise [k0_pay2, k0_pay6, SECOND, Cert.Reference19Ideal.BigDown.second]
  rw [upper_total m ρ c t y j h0 h1 h2]
  blk_point [iblk0, idx0 t]

theorem lower_second (c : Dev nD) (t : Fin cfg1.N) (y : S1x64x2048.Idx) (j : S2x704x2048.Idx)
    (h0 : (j 0 : ℕ) = 0) (h1 : (j 1 : ℕ) = t.val * 64 + y 1) (h2 : (j 2 : ℕ) = y 2) :
    (outsAt1 (V2 m ρ) c t).2.2.2 y = SECOND m c j := by
  dsimp only [outsAt1]
  frame_out
  pointwise [k1_pay2, k1_pay6, SECOND, Cert.Reference19Ideal.BigDown.second]
  erw [lower_total m ρ c t y j h0 h1 h2]
  blk_point [iblk1, idx1 t, kept m ρ c]

/-- The first call leaves its layer done; the second finds it so, and does the other. -/
theorem entry (c : Dev nD) : V2 m ρ c main_v1_0 = (dat0 (V0 m ρ) c).arrAt 4 cfg0.N ∧ V2 m ρ c main_v1_1 = (dat0 (V0 m ρ) c).arrAt 5 cfg0.N
    ∧ V2 m ρ c main_v1_2 = (dat0 (V0 m ρ) c).arrAt 6 cfg0.N ∧ V2 m ρ c main_v1_3 = (dat0 (V0 m ρ) c).arrAt 7 cfg0.N := by
  refine ⟨?_, ?_, ?_, ?_⟩
  · exact Eq.trans (by after_results; try rfl) (W1_arr m ρ c 4)
  · exact Eq.trans (by after_results; try rfl) (W1_arr m ρ c 5)
  · exact Eq.trans (by after_results; try rfl) (W1_arr m ρ c 6)
  · exact Eq.trans (by after_results; try rfl) (W1_arr m ρ c 7)

theorem final_total (c : Dev nD) : (dat1 (V2 m ρ) c).arrAt 4 cfg1.N = TOTAL m c := by
  refine (dat1 (V2 m ρ) c).arrAt_eq_of_coversWhere_of_agree 4 _ (fun β => β (0 : Fin 3) = 0) (by decide +kernel) (fun t hf y => ?_) (fun j hj => ?_)
  · blk_simp
    rw [after1_4]
    refine lower_total' m ρ c t y _ ?_ ?_ ?_
    all_goals blk_simp [idx1 t]
  · rw [A_eq1]
    refine (congrFun (entry m ρ c).1 _).trans (((dat0 (V0 m ρ) c).arrAt_emb_eq_of_coversWhere 4 (TOTAL m c) (fun β => β (0 : Fin 3) = 1) (by decide +kernel) (fun t hf y => ?_) j).trans (if_pos ?_))
    · blk_simp
      rw [after0_4]
      refine upper_total' m ρ c t y _ ?_ ?_ ?_
      all_goals blk_simp [idx0 t]
    · have hb : (j 0 : ℕ) < 2 := (j 0).isLt
      blk_simp [Pipeline.Window.cell_apply] at hj ⊢
      omega

theorem final_step (c : Dev nD) : (dat1 (V2 m ρ) c).arrAt 5 cfg1.N = STEP m c := by
  refine (dat1 (V2 m ρ) c).arrAt_eq_of_coversWhere_of_agree 5 _ (fun β => β (0 : Fin 3) = 0) (by decide +kernel) (fun t hf y => ?_) (fun j hj => ?_)
  · blk_simp
    rw [after1_5]
    refine lower_step m ρ c t y _ ?_ ?_ ?_
    all_goals blk_simp [idx1 t]
  · rw [A_eq1]
    refine (congrFun (entry m ρ c).2.1 _).trans (((dat0 (V0 m ρ) c).arrAt_emb_eq_of_coversWhere 5 (STEP m c) (fun β => β (0 : Fin 3) = 1) (by decide +kernel) (fun t hf y => ?_) j).trans (if_pos ?_))
    · blk_simp
      rw [after0_5]
      refine upper_step m ρ c t y _ ?_ ?_ ?_
      all_goals blk_simp [idx0 t]
    · have hb : (j 0 : ℕ) < 2 := (j 0).isLt
      blk_simp [Pipeline.Window.cell_apply] at hj ⊢
      omega

theorem final_first (c : Dev nD) : (dat1 (V2 m ρ) c).arrAt 6 cfg1.N = FIRST m c := by
  refine (dat1 (V2 m ρ) c).arrAt_eq_of_coversWhere_of_agree 6 _ (fun β => β (0 : Fin 3) = 0) (by decide +kernel) (fun t hf y => ?_) (fun j hj => ?_)
  · blk_simp
    rw [after1_6]
    refine lower_first m ρ c t y _ ?_ ?_ ?_
    all_goals blk_simp [idx1 t]
  · rw [A_eq1]
    refine (congrFun (entry m ρ c).2.2.1 _).trans (((dat0 (V0 m ρ) c).arrAt_emb_eq_of_coversWhere 6 (FIRST m c) (fun β => β (0 : Fin 3) = 1) (by decide +kernel) (fun t hf y => ?_) j).trans (if_pos ?_))
    · blk_simp
      rw [after0_6]
      refine upper_first m ρ c t y _ ?_ ?_ ?_
      all_goals blk_simp [idx0 t]
    · have hb : (j 0 : ℕ) < 2 := (j 0).isLt
      blk_simp [Pipeline.Window.cell_apply] at hj ⊢
      omega

theorem final_second (c : Dev nD) : (dat1 (V2 m ρ) c).arrAt 7 cfg1.N = SECOND m c := by
  refine (dat1 (V2 m ρ) c).arrAt_eq_of_coversWhere_of_agree 7 _ (fun β => β (0 : Fin 3) = 0) (by decide +kernel) (fun t hf y => ?_) (fun j hj => ?_)
  · blk_simp
    rw [after1_7]
    refine lower_second m ρ c t y _ ?_ ?_ ?_
    all_goals blk_simp [idx1 t]
  · rw [A_eq1]
    refine (congrFun (entry m ρ c).2.2.2 _).trans (((dat0 (V0 m ρ) c).arrAt_emb_eq_of_coversWhere 7 (SECOND m c) (fun β => β (0 : Fin 3) = 1) (by decide +kernel) (fun t hf y => ?_) j).trans (if_pos ?_))
    · blk_simp
      rw [after0_7]
      refine upper_second m ρ c t y _ ?_ ?_ ?_
      all_goals blk_simp [idx0 t]
    · have hb : (j 0 : ℕ) < 2 := (j 0).isLt
      blk_simp [Pipeline.Window.cell_apply] at hj ⊢
      omega

section Run

open Idealize.SL Idealize.SL.RA Idealize.SL.BI
open scoped Idealize.SL.BI
open Idealize.SL.BI.BIBase Idealize.SL.BI.Laws Idealize.SL.ProofMode
open Idealize.ShloMosaic.Tactic Idealize.ShloMosaic.Rounds
open Idealize.ShloMosaic.Pipeline (Dat Cfg Window BodyObligation cellOf)

set_option backward.isDefEq.respectTransparency.types false in
/-- The run of the two calls: each result is what the second leaves. -/
theorem run : θ_run defs (onTc (τ := τ) (main (F := Ideal))) ⟨m, fun _ => 0, ρ⟩ (fun r => ∀ c : Dev nD,
      r.2.mem ((c.tc : Thread nD τ).loc main_v1_0) = TOTAL m c
      ∧ r.2.mem ((c.tc : Thread nD τ).loc main_v1_1) = STEP m c
      ∧ r.2.mem ((c.tc : Thread nD τ).loc main_v1_2) = FIRST m c
      ∧ r.2.mem ((c.tc : Thread nD τ).loc main_v1_3) = SECOND m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v1_0 (by decide))).trans ((W3_arr m ρ c 4).trans (final_total m ρ c)),
       (h c _ (mem_uc main_v1_1 (by decide))).trans ((W3_arr m ρ c 5).trans (final_step m ρ c)),
       (h c _ (mem_uc main_v1_2 (by decide))).trans ((W3_arr m ρ c 6).trans (final_first m ρ c)),
       (h c _ (mem_uc main_v1_3 (by decide))).trans ((W3_arr m ρ c 7).trans (final_second m ρ c)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Run

end Cert.Kernel19Ideal.BigDown

namespace Cert.BigDown

open Cert.Kernel19.Gen

/-! The kernel's run gives both of its frames; with the reference's run, it gives the equality of the results. -/

theorem bodies : Cert.Kernel19.defs₀ (F := Bits) = Cert.Kernel19Ideal.defs₀ (F := Bits) := by
  sl_kernel_rfl

theorem frame_kernel : Cert.quiescent_Kernel19 := fun m ρ _ => by
  rw [show Cert.Kernel19.defs (F := Bits) = Cert.Kernel19Ideal.defs (F := Bits) from congrArg (Pipeline.defs Cert.Kernel19.pcfgs) bodies]
  exact Cert.Kernel19Ideal.Gen.frame (F := Bits) m ρ

theorem frame_ideal : Cert.quiescent_Kernel19Ideal := fun m ρ _ => Cert.Kernel19Ideal.Gen.frame m ρ

theorem frame_reference : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

theorem algebraic : Cert.algebraic_Kernel19Ideal_Reference19Ideal := by
  pair_intro
  · run_from Cert.Kernel19Ideal.BigDown.run m g
  · run_from Cert.Reference19Ideal.BigDown.run m' g'

end Cert.BigDown

end
-- ==== Proof.Slots.lean ====
module

public import proofs.«01_k».proof.Defs
public import proofs.«01_k».proof.Proof.Gen.Kernel20Ideal.Value
public import proofs.«01_k».proof.Proof.Gen.Kernel20
public import proofs.«01_k».proof.Proof.Gen.Reference20Ideal.Run
public import Idealize.ShloMosaic.Lib.Pipeline.ValueKit
public import Idealize.ShloMosaic.Lib.Pipeline.ReadBack
public import Idealize.ShloMosaic.Lib.Pointwise

/-! The sum over the devices of the packed gradients of the small weights and of the loss. -/

@[expose] public section

set_option maxRecDepth 16384

noncomputable section

open Idealize.ShloMosaic Idealize.ShloMosaic.TcCoe Idealize.SL.Sem
open Idealize.ShloMosaic.Pipeline (Dat)

namespace Cert.Reference20Ideal.Slots

open Cert.Reference20Ideal Cert.Reference20Ideal.Gen

/-- The reference's result as a function of its arguments. -/
def result (x0 : FVec Ideal S8x1128x128 .f32) : FVec Ideal Cert.Reference20Ideal.S1128x128 .f32 :=
  Host.reduceAdd x0 (constant S_ .f32 0x00000000#32) reducesTo_S8x1128x128_S1128x128_d0 h_S_

end Cert.Reference20Ideal.Slots

namespace Cert.Kernel20Ideal.Slots

open Cert.Kernel20Ideal Cert.Kernel20Ideal.Gen

variable (m : (ℓ : Loc nD τ sig) → Buf (Elt Ideal) ℓ)

/-- The reference's result over the kernel's arguments. -/
abbrev REF (c : Dev nD) : FVec Ideal Cert.Reference20Ideal.S1128x128 .f32 :=
  Cert.Reference20Ideal.Slots.result (m ((c : Thread nD τ).loc main_arg0))

theorem idx : ∀ t : Fin cfg0.N, win0_0.index t = ![0, 0, 0] ∧ win0_1.index t = ![0, 0] :=
  (by decide +kernel : ∀ t : Fin grid0.N, _)

theorem final (c : Dev nD) : (dats m 0 c).arrAt 1 (cfgs 0).N = REF m c := by
  refine (dats m 0 c).arrAt_eq_of_covers 1 _ (by decide +kernel) fun t hf y => ?_
  blk_simp
  rw [after0_1]
  unfold out0_1
  frame_out
  pointwise [k0_pay1, REF, Cert.Reference20Ideal.Slots.result]
  rw [Fin.sum_univ_eight]
  blk_point [iblk, idx t]

end Cert.Kernel20Ideal.Slots

namespace Cert.Slots

open Cert.Kernel20.Gen

/-! The kernel's run gives both of its frames; with the reference's run, it gives the equality of the results. -/

theorem bodies : Cert.Kernel20.defs₀ (F := Bits) = Cert.Kernel20Ideal.defs₀ (F := Bits) := by
  funext l p a
  cases l with
  | tc => match p, a with
    | ⟨0, _⟩, (t, s) => rfl
  | _ => rfl

theorem frame_kernel : Cert.quiescent_Kernel20 := fun m ρ _ => by
  rw [show Cert.Kernel20.defs (F := Bits) = Cert.Kernel20Ideal.defs (F := Bits) from congrArg (Pipeline.defs Cert.Kernel20.pcfgs) bodies]
  exact Cert.Kernel20Ideal.Gen.frame (F := Bits) m ρ

theorem frame_ideal : Cert.quiescent_Kernel20Ideal := fun m ρ _ => Cert.Kernel20Ideal.Gen.frame m ρ

theorem frame_reference : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem algebraic : Cert.algebraic_Kernel20Ideal_Reference20Ideal := fun m g m' g' _ ha =>
  ⟨fun c => (Cert.Kernel20Ideal.Gen.dats m 0 c).arrAt 1 Cert.Kernel20Ideal.cfg0.N, Cert.Kernel20Ideal.Value.run_blocks m g,
    (θ_run _ _ _).mono (fun r h c => ⟨((h c).1.trans (congrArg Cert.Reference20Ideal.Slots.result (ha c))).trans (Cert.Kernel20Ideal.Slots.final m c).symm, (h c).2⟩)
      (Cert.Reference20Ideal.Value.run m' g')⟩

end Cert.Slots

end
-- ==== Proof.Wide.lean ====
module

public import proofs.«01_k».proof.Defs
public import proofs.«01_k».proof.Proof.Gen.Kernel21Ideal.Value
public import proofs.«01_k».proof.Proof.Gen.Kernel21
public import proofs.«01_k».proof.Proof.Gen.Reference21Ideal.Run
public import Idealize.ShloMosaic.Lib.Pipeline.ValueKit
public import Idealize.ShloMosaic.Lib.Pipeline.ReadBack
public import Idealize.ShloMosaic.Lib.Pointwise

/-! The sum over the devices of one layer's gradient of the input projection's weight. -/

@[expose] public section

set_option maxRecDepth 16384

noncomputable section

open Idealize.ShloMosaic Idealize.ShloMosaic.TcCoe Idealize.SL.Sem
open Idealize.ShloMosaic.Pipeline (Dat)

namespace Cert.Reference21Ideal.Wide

open Cert.Reference21Ideal Cert.Reference21Ideal.Gen

/-- The reference's result as a function of its arguments. -/
def result (x0 : FVec Ideal S8x642x2048 .bf16) : FVec Ideal Cert.Reference21Ideal.S642x2048 .f32 :=
  Host.reduceAdd (extf .f32 x0 bitsLt_bf16_f32) (constant S_ .f32 0x00000000#32) reducesTo_S8x642x2048_S642x2048_d0 h_S_

end Cert.Reference21Ideal.Wide

namespace Cert.Kernel21Ideal.Wide

open Cert.Kernel21Ideal Cert.Kernel21Ideal.Gen

variable (m : (ℓ : Loc nD τ sig) → Buf (Elt Ideal) ℓ)

/-- The reference's result over the kernel's arguments. -/
abbrev REF (c : Dev nD) : FVec Ideal Cert.Reference21Ideal.S642x2048 .f32 :=
  Cert.Reference21Ideal.Wide.result (m ((c : Thread nD τ).loc main_arg0))

theorem idx : ∀ t : Fin cfg0.N, win0_0.index t = ![0, 0, t.val] ∧ win0_1.index t = ![0, t.val] :=
  (by decide +kernel : ∀ t : Fin grid0.N, _)

theorem final (c : Dev nD) : (dats m 0 c).arrAt 1 (cfgs 0).N = REF m c := by
  refine (dats m 0 c).arrAt_eq_of_covers 1 _ (by decide +kernel) fun t hf y => ?_
  blk_simp
  rw [after0_1]
  unfold out0_1
  frame_out
  pointwise [k0_pay1, REF, Cert.Reference21Ideal.Wide.result]
  rw [Fin.sum_univ_eight]
  blk_point [iblk, idx t]

end Cert.Kernel21Ideal.Wide

namespace Cert.Wide

open Cert.Kernel21.Gen

/-! The kernel's run gives both of its frames; with the reference's run, it gives the equality of the results. -/

theorem bodies : Cert.Kernel21.defs₀ (F := Bits) = Cert.Kernel21Ideal.defs₀ (F := Bits) := by
  funext l p a
  cases l with
  | tc => match p, a with
    | ⟨0, _⟩, (t, s) => rfl
  | _ => rfl

theorem frame_kernel : Cert.quiescent_Kernel21 := fun m ρ _ => by
  rw [show Cert.Kernel21.defs (F := Bits) = Cert.Kernel21Ideal.defs (F := Bits) from congrArg (Pipeline.defs Cert.Kernel21.pcfgs) bodies]
  exact Cert.Kernel21Ideal.Gen.frame (F := Bits) m ρ

theorem frame_ideal : Cert.quiescent_Kernel21Ideal := fun m ρ _ => Cert.Kernel21Ideal.Gen.frame m ρ

theorem frame_reference : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem algebraic : Cert.algebraic_Kernel21Ideal_Reference21Ideal := fun m g m' g' _ ha =>
  ⟨fun c => (Cert.Kernel21Ideal.Gen.dats m 0 c).arrAt 1 Cert.Kernel21Ideal.cfg0.N, Cert.Kernel21Ideal.Value.run_blocks m g,
    (θ_run _ _ _).mono (fun r h c => ⟨((h c).1.trans (congrArg Cert.Reference21Ideal.Wide.result (ha c))).trans (Cert.Kernel21Ideal.Wide.final m c).symm, (h c).2⟩)
      (Cert.Reference21Ideal.Value.run m' g')⟩

end Cert.Wide

end
-- ==== Proof.lean ====
module

public import proofs.«01_k».proof.Defs
public import proofs.«01_k».proof.Proof.DownDx
public import proofs.«01_k».proof.Proof.DownDw
public import proofs.«01_k».proof.Proof.UpDx
public import proofs.«01_k».proof.Proof.UpDw
public import proofs.«01_k».proof.Proof.OutDx
public import proofs.«01_k».proof.Proof.OutDw
public import proofs.«01_k».proof.Proof.InDx
public import proofs.«01_k».proof.Proof.InDw
public import proofs.«01_k».proof.Proof.PwDx
public import proofs.«01_k».proof.Proof.PwDw
public import proofs.«01_k».proof.Proof.Up
public import proofs.«01_k».proof.Proof.Down
public import proofs.«01_k».proof.Proof.In
public import proofs.«01_k».proof.Proof.Norm
public import proofs.«01_k».proof.Proof.SmallA
public import proofs.«01_k».proof.Proof.SmallB
public import proofs.«01_k».proof.Proof.SmallC
public import proofs.«01_k».proof.Proof.SmallD
public import proofs.«01_k».proof.Proof.BigDown
public import proofs.«01_k».proof.Proof.Slots
public import proofs.«01_k».proof.Proof.Wide

/-! For each of the twenty-one programs: the kernel as it stands and the kernel over the ideal numbers run to the end and leave their arguments, and
so does the reference; the two kernels are the same program; and over the ideal numbers the kernel's result is the reference's. -/

@[expose] public section

set_option maxRecDepth 16384

noncomputable section

open Idealize.ShloMosaic Idealize.ShloMosaic.TcCoe Idealize.SL.Sem

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.DownDx.frame_kernel, Cert.DownDx.frame_ideal, Cert.DownDx.frame_reference,
    Cert.DownDw.frame_kernel, Cert.DownDw.frame_ideal, Cert.DownDw.frame_reference,
    Cert.UpDx.frame_kernel, Cert.UpDx.frame_ideal, Cert.UpDx.frame_reference,
    Cert.UpDw.frame_kernel, Cert.UpDw.frame_ideal, Cert.UpDw.frame_reference,
    Cert.OutDx.frame_kernel, Cert.OutDx.frame_ideal, Cert.OutDx.frame_reference,
    Cert.OutDw.frame_kernel, Cert.OutDw.frame_ideal, Cert.OutDw.frame_reference,
    Cert.InDx.frame_kernel, Cert.InDx.frame_ideal, Cert.InDx.frame_reference,
    Cert.InDw.frame_kernel, Cert.InDw.frame_ideal, Cert.InDw.frame_reference,
    Cert.PwDx.frame_kernel, Cert.PwDx.frame_ideal, Cert.PwDx.frame_reference,
    Cert.PwDw.frame_kernel, Cert.PwDw.frame_ideal, Cert.PwDw.frame_reference,
    Cert.Up.frame_kernel, Cert.Up.frame_ideal, Cert.Up.frame_reference,
    Cert.Down.frame_kernel, Cert.Down.frame_ideal, Cert.Down.frame_reference,
    Cert.In.frame_kernel, Cert.In.frame_ideal, Cert.In.frame_reference,
    Cert.Norm.frame_kernel, Cert.Norm.frame_ideal, Cert.Norm.frame_reference,
    Cert.SmallA.frame_kernel, Cert.SmallA.frame_ideal, Cert.SmallA.frame_reference,
    Cert.SmallB.frame_kernel, Cert.SmallB.frame_ideal, Cert.SmallB.frame_reference,
    Cert.SmallC.frame_kernel, Cert.SmallC.frame_ideal, Cert.SmallC.frame_reference,
    Cert.SmallD.frame_kernel, Cert.SmallD.frame_ideal, Cert.SmallD.frame_reference,
    Cert.BigDown.frame_kernel, Cert.BigDown.frame_ideal, Cert.BigDown.frame_reference,
    Cert.Slots.frame_kernel, Cert.Slots.frame_ideal, Cert.Slots.frame_reference,
    Cert.Wide.frame_kernel, Cert.Wide.frame_ideal, Cert.Wide.frame_reference,
    trivial, Cert.DownDx.algebraic, trivial, Cert.DownDw.algebraic, trivial, Cert.UpDx.algebraic, trivial,
    Cert.UpDw.algebraic, trivial, Cert.OutDx.algebraic, trivial, Cert.OutDw.algebraic, trivial,
    Cert.InDx.algebraic, trivial, Cert.InDw.algebraic, trivial, Cert.PwDx.algebraic, trivial,
    Cert.PwDw.algebraic, trivial, Cert.Up.algebraic, trivial, Cert.Down.algebraic, trivial, Cert.In.algebraic, trivial,
    Cert.Norm.algebraic, trivial, Cert.SmallA.algebraic, trivial, Cert.SmallB.algebraic, trivial, Cert.SmallC.algebraic, trivial,
    Cert.SmallD.algebraic, trivial, Cert.BigDown.algebraic, trivial, Cert.Slots.algebraic, trivial, Cert.Wide.algebraic⟩

end Cert.Proof

end
